-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2_base" .f32 0x41549A78#32 (((Real.log 10000) * (Real.log 2)⁻¹ : ℝ) : EReal)
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.PackStatement Cert.KernelIdeal.S8x128

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73_0) = v0 c
          ∧ r.2.mem ((c.tc : Thread Cert.ReferenceIdeal.nD Cert.ReferenceIdeal.τ).loc Cert.ReferenceIdeal.main_v73_1) = v1 c
          ∧ r.2.mem ((c.tc : Thread Cert.ReferenceIdeal.nD Cert.ReferenceIdeal.τ).loc Cert.ReferenceIdeal.main_v99_0) = v2 c
          ∧ r.2.mem ((c.tc : Thread Cert.ReferenceIdeal.nD Cert.ReferenceIdeal.τ).loc Cert.ReferenceIdeal.main_v99_1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S9x2048x1024 : Shape := ⟨3, ![9, 2048, 1024]⟩
abbrev S9 : Shape := ⟨1, ![9]⟩
abbrev S_ : Shape := ⟨0, ![]⟩

class Facts : Prop where
  bitsLt_bf16_f32 : FTy.bits .bf16 < FTy.bits .f32
  bcast_S_S9x2048x1024 : S_.BroadcastsInDim S9x2048x1024 (![] : Fin 0 → Fin S9x2048x1024.rank)
  reducesTo_S9x2048x1024_S_d0_1_2 : S9x2048x1024.ReducesTo [0, 1, 2] S_
  h_S_ : 0 < S_.numel
  bcast_S_S9 : S_.BroadcastsInDim S9 (![] : Fin 0 → Fin S9.rank)
  reducesTo_S9_S_d0 : S9.ReducesTo [0] S_

variable [Facts]

def fn {F : FTy → Type} [FloatOps F] (main_arg0 : FVec F S9x2048x1024 .bf16) (main_arg1 : FVec F S9x2048x1024 .bf16) (main_arg2 : IVec S9 32) : IVec S_ 1 :=
  let main_v0 : FVec F S9x2048x1024 .f32 := (extf .f32 · bitsLt_bf16_f32) main_arg0
  let main_v1 : FVec F S9x2048x1024 .f32 := Host.absf main_v0
  let main_cst : FVec F S_ .f32 := constant S_ .f32 0x7F7F0000#32
  let main_v2 : FVec F S9x2048x1024 .f32 := broadcastInDim S9x2048x1024 ![] bcast_S_S9x2048x1024 main_cst
  let main_v3 : IVec S9x2048x1024 1 := cmpf .ole main_v1 main_v2
  let main_c : IVec S_ 1 := constantI S_ 1 1#1
  let main_v4 : IVec S_ 1 := (fun x v => Host.reduce IntOp.andi x v reducesTo_S9x2048x1024_S_d0_1_2 h_S_) main_v3 main_c
  let main_v5 : FVec F S9x2048x1024 .f32 := (extf .f32 · bitsLt_bf16_f32) main_arg1
  let main_v6 : FVec F S9x2048x1024 .f32 := Host.absf main_v5
  let main_cst_0 : FVec F S_ .f32 := constant S_ .f32 0x7F7F0000#32
  let main_v7 : FVec F S9x2048x1024 .f32 := broadcastInDim S9x2048x1024 ![] bcast_S_S9x2048x1024 main_cst_0
  let main_v8 : IVec S9x2048x1024 1 := cmpf .ole main_v6 main_v7
  let main_c_1 : IVec S_ 1 := constantI S_ 1 1#1
  let main_v9 : IVec S_ 1 := (fun x v => Host.reduce IntOp.andi x v reducesTo_S9x2048x1024_S_d0_1_2 h_S_) main_v8 main_c_1
  let main_v10 : IVec S_ 1 := andi main_v4 main_v9
  let main_c_2 : IVec S_ 32 := constantI S_ 32 2147481600#32
  let main_v11 : IVec S9 32 := broadcastInDim S9 ![] bcast_S_S9 main_c_2
  let main_v12 : IVec S9 1 := cmpi .sle main_arg2 main_v11
  let main_c_3 : IVec S_ 1 := constantI S_ 1 1#1
  let main_v13 : IVec S_ 1 := (fun x v => Host.reduce IntOp.andi x v reducesTo_S9_S_d0 h_S_) main_v12 main_c_3
  let main_v14 : IVec S_ 1 := andi main_v10 main_v13
  main_v14
-- ==== Kernel.lean ====
abbrev S9x2048x1024 : Shape := ⟨3, ![9, 2048, 1024]⟩
abbrev S9 : Shape := ⟨1, ![9]⟩
abbrev S2304x8x8x128 : Shape := ⟨4, ![2304, 8, 8, 128]⟩
abbrev S9x2048x8x128 : Shape := ⟨4, ![9, 2048, 8, 128]⟩
abbrev S9x8x128 : Shape := ⟨3, ![9, 8, 128]⟩
abbrev S256x8x8x128 : Shape := ⟨4, ![256, 8, 8, 128]⟩
abbrev S1x2048x8x128 : Shape := ⟨4, ![1, 2048, 8, 128]⟩
abbrev S1x8x128 : Shape := ⟨3, ![1, 8, 128]⟩
abbrev S16x128 : Shape := ⟨2, ![16, 128]⟩
abbrev S2048x128 : Shape := ⟨2, ![2048, 128]⟩
abbrev S64x128 : Shape := ⟨2, ![64, 128]⟩
abbrev S2048x8x128 : Shape := ⟨3, ![2048, 8, 128]⟩
abbrev S1 : Shape := ⟨1, ![1]⟩
abbrev S32x128 : Shape := ⟨2, ![32, 128]⟩
abbrev S1x128 : Shape := ⟨2, ![1, 128]⟩
abbrev S8x128 : Shape := ⟨2, ![8, 128]⟩
abbrev S256x8x4x128 : Shape := ⟨4, ![256, 8, 4, 128]⟩
abbrev S256x32x128 : Shape := ⟨3, ![256, 32, 128]⟩
abbrev S1x8x2x128 : Shape := ⟨4, ![1, 8, 2, 128]⟩
abbrev S1x8x1x128 : Shape := ⟨4, ![1, 8, 1, 128]⟩
abbrev S8 : Shape := ⟨1, ![8]⟩
abbrev S8x1 : Shape := ⟨2, ![8, 1]⟩
abbrev S8x8x128 : Shape := ⟨3, ![8, 8, 128]⟩
abbrev S1x8x8x128 : Shape := ⟨4, ![1, 8, 8, 128]⟩
abbrev S8x128x1 : Shape := ⟨3, ![8, 128, 1]⟩
abbrev S32x8x128 : Shape := ⟨3, ![32, 8, 128]⟩
abbrev S1x32x8x128 : Shape := ⟨4, ![1, 32, 8, 128]⟩
abbrev S9x8x1 : Shape := ⟨3, ![9, 8, 1]⟩
abbrev S9x8 : Shape := ⟨2, ![9, 8]⟩

abbrev nBuf : Space → Nat
  | .hbm => 15
  | .vmem => 21
  | .smem => 1
  | _ => 0

abbrev bufTy : (tb : Table) → Fin (tcTables nBuf tb) → BufTy
  | .hbm, ⟨0, _⟩ => ⟨S9x2048x1024, .bf16⟩
  | .hbm, ⟨1, _⟩ => ⟨S9x2048x1024, .bf16⟩
  | .hbm, ⟨2, _⟩ => ⟨S9, .i32⟩
  | .hbm, ⟨3, _⟩ => ⟨S2304x8x8x128, .bf16⟩
  | .hbm, ⟨4, _⟩ => ⟨S2304x8x8x128, .bf16⟩
  | .hbm, ⟨5, _⟩ => ⟨S2304x8x8x128, .bf16⟩
  | .hbm, ⟨6, _⟩ => ⟨S2304x8x8x128, .bf16⟩
  | .hbm, ⟨7, _⟩ => ⟨S9x2048x8x128, .fp8e4m3⟩
  | .hbm, ⟨8, _⟩ => ⟨S9x2048x8x128, .fp8e4m3⟩
  | .hbm, ⟨9, _⟩ => ⟨S9x8x128, .f32⟩
  | .hbm, ⟨10, _⟩ => ⟨S9x8x128, .f32⟩
  | .hbm, ⟨11, _⟩ => ⟨S9x8x1, .f32⟩
  | .hbm, ⟨12, _⟩ => ⟨S9x8, .f32⟩
  | .hbm, ⟨13, _⟩ => ⟨S9x8x1, .f32⟩
  | .hbm, ⟨14, _⟩ => ⟨S9x8, .f32⟩
  | .local _ .vmem, ⟨0, _⟩ => ⟨S256x8x8x128, .bf16⟩
  | .local _ .vmem, ⟨1, _⟩ => ⟨S256x8x8x128, .bf16⟩
  | .local _ .vmem, ⟨2, _⟩ => ⟨S256x8x8x128, .bf16⟩
  | .local _ .vmem, ⟨3, _⟩ => ⟨S256x8x8x128, .bf16⟩
  | .local _ .vmem, ⟨4, _⟩ => ⟨S1x2048x8x128, .fp8e4m3⟩
  | .local _ .vmem, ⟨5, _⟩ => ⟨S1x2048x8x128, .fp8e4m3⟩
  | .local _ .vmem, ⟨6, _⟩ => ⟨S1x2048x8x128, .fp8e4m3⟩
  | .local _ .vmem, ⟨7, _⟩ => ⟨S1x2048x8x128, .fp8e4m3⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S16x128, .f32⟩
  | .local _ .vmem, ⟨13, _⟩ => ⟨S16x128, .f32⟩
  | .local _ .vmem, ⟨14, _⟩ => ⟨S2048x128, .f32⟩
  | .local _ .vmem, ⟨15, _⟩ => ⟨S2048x128, .f32⟩
  | .local _ .vmem, ⟨16, _⟩ => ⟨S64x128, .f32⟩
  | .local _ .vmem, ⟨17, _⟩ => ⟨S64x128, .f32⟩
  | .local _ .vmem, ⟨18, _⟩ => ⟨S2048x128, .f32⟩
  | .local _ .vmem, ⟨19, _⟩ => ⟨S2048x128, .f32⟩
  | .local _ .vmem, ⟨20, _⟩ => ⟨S2048x8x128, .f32⟩
  | .local _ .smem, ⟨0, _⟩ => ⟨S9, .i32⟩
  | _, _ => ⟨S9x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨1, ![9], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
@[reducible] def k0_t1_loop : Scf.Loop 32 :=
  let c0_i32_2 : BitVec 32 := 0#32
  let c32_i32 : BitVec 32 := 32#32
  let v7 : BitVec 32 := Scalar.addi c0_i32_2 c32_i32
  let c1_i32 : BitVec 32 := 1#32
  ⟨c0_i32_2, v7, c1_i32⟩
def k0_mult1 (k0_t1 : Fin k0_t1_loop.trips) : BitVec 32 :=
  let c0_i32_2 : BitVec 32 := 0#32
  let c1_i32 : BitVec 32 := 1#32
  let arg17 : BitVec 32 := Scf.iv c0_i32_2 c1_i32 k0_t1
  let c64_i32_73 : BitVec 32 := 64#32
  let v201 : BitVec 32 := Scalar.muli arg17 c64_i32_73
  v201
def k0_off2 (k0_t1 : Fin k0_t1_loop.trips) : Fin 2 → Nat :=
  let c0_i32_2 : BitVec 32 := 0#32
  let c1_i32 : BitVec 32 := 1#32
  let arg17 : BitVec 32 := Scf.iv c0_i32_2 c1_i32 k0_t1
  let c64_i32_73 : BitVec 32 := 64#32
  let v201 : BitVec 32 := Scalar.muli arg17 c64_i32_73
  let v202 : BitVec 32 := v201
  let v203 : Index := Scalar.indexCast v202
  let c0_74 : Index := 0#32
  ![v203.toNat, 0]
@[reducible] def k0_t2_loop : Scf.Loop 32 :=
  let c0_i32_5 : BitVec 32 := 0#32
  let c64_i32 : BitVec 32 := 64#32
  let v12 : BitVec 32 := Scalar.addi c0_i32_5 c64_i32
  let c1_i32_6 : BitVec 32 := 1#32
  ⟨c0_i32_5, v12, c1_i32_6⟩
def k0_off3 (k0_t2 : Fin k0_t2_loop.trips) (c0_i32_74 : BitVec 32) : Fin 4 → Nat :=
  let c0_i32_5 : BitVec 32 := 0#32
  let c1_i32_6 : BitVec 32 := 1#32
  let arg17 : BitVec 32 := Scf.iv c0_i32_5 c1_i32_6 k0_t2
  let c4_i32_73 : BitVec 32 := 4#32
  let v201 : BitVec 32 := Scalar.muli arg17 c4_i32_73
  let v202 : BitVec 32 := Scalar.addi v201 c0_i32_74
  let v205 : Index := Scalar.indexCast v202
  let c0_76 : Index := 0#32
  ![v205.toNat, 0, 0, 0]
def k0_off4 (k0_t2 : Fin k0_t2_loop.trips) (c0_i32_78 : BitVec 32) : Fin 4 → Nat :=
  let c0_i32_5 : BitVec 32 := 0#32
  let c1_i32_6 : BitVec 32 := 1#32
  let arg17 : BitVec 32 := Scf.iv c0_i32_5 c1_i32_6 k0_t2
  let c4_i32_77 : BitVec 32 := 4#32
  let v211 : BitVec 32 := Scalar.muli arg17 c4_i32_77
  let v212 : BitVec 32 := Scalar.addi v211 c0_i32_78
  let v215 : Index := Scalar.indexCast v212
  let c0_79 : Index := 0#32
  ![v215.toNat, 0, 2, 0]
def k0_off5 (k0_t2 : Fin k0_t2_loop.trips) (c0_i32_81 : BitVec 32) : Fin 4 → Nat :=
  let c0_i32_5 : BitVec 32 := 0#32
  let c1_i32_6 : BitVec 32 := 1#32
  let arg17 : BitVec 32 := Scf.iv c0_i32_5 c1_i32_6 k0_t2
  let c4_i32_80 : BitVec 32 := 4#32
  let v221 : BitVec 32 := Scalar.muli arg17 c4_i32_80
  let v222 : BitVec 32 := Scalar.addi v221 c0_i32_81
  let v225 : Index := Scalar.indexCast v222
  let c0_82 : Index := 0#32
  ![v225.toNat, 0, 4, 0]
def k0_off6 (k0_t2 : Fin k0_t2_loop.trips) (c0_i32_84 : BitVec 32) : Fin 4 → Nat :=
  let c0_i32_5 : BitVec 32 := 0#32
  let c1_i32_6 : BitVec 32 := 1#32
  let arg17 : BitVec 32 := Scf.iv c0_i32_5 c1_i32_6 k0_t2
  let c4_i32_83 : BitVec 32 := 4#32
  let v231 : BitVec 32 := Scalar.muli arg17 c4_i32_83
  let v232 : BitVec 32 := Scalar.addi v231 c0_i32_84
  let v235 : Index := Scalar.indexCast v232
  let c0_85 : Index := 0#32
  ![v235.toNat, 0, 6, 0]
@[reducible] def k0_t3_loop : Scf.Loop 32 :=
  let c0_i32_30 : BitVec 32 := 0#32
  let c64_i32_31 : BitVec 32 := 64#32
  let v110 : BitVec 32 := Scalar.addi c0_i32_30 c64_i32_31
  let c1_i32_32 : BitVec 32 := 1#32
  ⟨c0_i32_30, v110, c1_i32_32⟩
def k0_off7 (k0_t3 : Fin k0_t3_loop.trips) (c0_i32_74 : BitVec 32) : Fin 4 → Nat :=
  let c0_i32_30 : BitVec 32 := 0#32
  let c1_i32_32 : BitVec 32 := 1#32
  let arg17 : BitVec 32 := Scf.iv c0_i32_30 c1_i32_32 k0_t3
  let c4_i32_73 : BitVec 32 := 4#32
  let v201 : BitVec 32 := Scalar.muli arg17 c4_i32_73
  let v202 : BitVec 32 := Scalar.addi v201 c0_i32_74
  let v205 : Index := Scalar.indexCast v202
  let c0_76 : Index := 0#32
  ![v205.toNat, 0, 0, 0]
def k0_off8 (k0_t3 : Fin k0_t3_loop.trips) (c0_i32_82 : BitVec 32) : Fin 4 → Nat :=
  let c0_i32_30 : BitVec 32 := 0#32
  let c1_i32_32 : BitVec 32 := 1#32
  let arg17 : BitVec 32 := Scf.iv c0_i32_30 c1_i32_32 k0_t3
  let c4_i32_81 : BitVec 32 := 4#32
  let v221 : BitVec 32 := Scalar.muli arg17 c4_i32_81
  let v222 : BitVec 32 := Scalar.addi v221 c0_i32_82
  let v225 : Index := Scalar.indexCast v222
  let c0_83 : Index := 0#32
  ![v225.toNat, 0, 2, 0]
def k0_off9 (k0_t3 : Fin k0_t3_loop.trips) (c0_i32_89 : BitVec 32) : Fin 4 → Nat :=
  let c0_i32_30 : BitVec 32 := 0#32
  let c1_i32_32 : BitVec 32 := 1#32
  let arg17 : BitVec 32 := Scf.iv c0_i32_30 c1_i32_32 k0_t3
  let c4_i32_88 : BitVec 32 := 4#32
  let v241 : BitVec 32 := Scalar.muli arg17 c4_i32_88
  let v242 : BitVec 32 := Scalar.addi v241 c0_i32_89
  let v245 : Index := Scalar.indexCast v242
  let c0_90 : Index := 0#32
  ![v245.toNat, 0, 4, 0]
def k0_off10 (k0_t3 : Fin k0_t3_loop.trips) (c0_i32_96 : BitVec 32) : Fin 4 → Nat :=
  let c0_i32_30 : BitVec 32 := 0#32
  let c1_i32_32 : BitVec 32 := 1#32
  let arg17 : BitVec 32 := Scf.iv c0_i32_30 c1_i32_32 k0_t3
  let c4_i32_95 : BitVec 32 := 4#32
  let v261 : BitVec 32 := Scalar.muli arg17 c4_i32_95
  let v262 : BitVec 32 := Scalar.addi v261 c0_i32_96
  let v265 : Index := Scalar.indexCast v262
  let c0_97 : Index := 0#32
  ![v265.toNat, 0, 6, 0]
def k0_off11 (k0_t3 : Fin k0_t3_loop.trips) (c0_i32_103 : BitVec 32) : Fin 4 → Nat :=
  let c0_105 : Index := 0#32
  let c0_i32_30 : BitVec 32 := 0#32
  let c1_i32_32 : BitVec 32 := 1#32
  let arg17 : BitVec 32 := Scf.iv c0_i32_30 c1_i32_32 k0_t3
  let c4_i32_102 : BitVec 32 := 4#32
  let v291 : BitVec 32 := Scalar.muli arg17 c4_i32_102
  let v292 : BitVec 32 := Scalar.addi v291 c0_i32_103
  let c8_i32_104 : BitVec 32 := 8#32
  let v293 : BitVec 32 := Scalar.muli v292 c8_i32_104
  let v294 : Index := Scalar.indexCast v293
  let c0_106 : Index := 0#32
  let c0_107 : Index := 0#32
  ![0, v294.toNat, 0, 0]
@[reducible] def k0_t4_loop : Scf.Loop 32 :=
  let c0_i32_35 : BitVec 32 := 0#32
  let c64_i32_36 : BitVec 32 := 64#32
  let v112 : BitVec 32 := Scalar.addi c0_i32_35 c64_i32_36
  let c1_i32_37 : BitVec 32 := 1#32
  ⟨c0_i32_35, v112, c1_i32_37⟩
def k0_off12 (k0_t4 : Fin k0_t4_loop.trips) (c0_i32_74 : BitVec 32) : Fin 4 → Nat :=
  let c0_i32_35 : BitVec 32 := 0#32
  let c1_i32_37 : BitVec 32 := 1#32
  let arg17 : BitVec 32 := Scf.iv c0_i32_35 c1_i32_37 k0_t4
  let c4_i32_73 : BitVec 32 := 4#32
  let v201 : BitVec 32 := Scalar.muli arg17 c4_i32_73
  let v202 : BitVec 32 := Scalar.addi v201 c0_i32_74
  let v205 : Index := Scalar.indexCast v202
  let c0_76 : Index := 0#32
  ![v205.toNat, 0, 0, 0]
def k0_off13 (k0_t4 : Fin k0_t4_loop.trips) (c0_i32_74 : BitVec 32) (c0_i32_82 : BitVec 32) : Fin 2 → Nat :=
  let c0_i32_35 : BitVec 32 := 0#32
  let c1_i32_37 : BitVec 32 := 1#32
  let arg17 : BitVec 32 := Scf.iv c0_i32_35 c1_i32_37 k0_t4
  let c4_i32_73 : BitVec 32 := 4#32
  let v201 : BitVec 32 := Scalar.muli arg17 c4_i32_73
  let v202 : BitVec 32 := Scalar.addi v201 c0_i32_74
  let c8_i32_81 : BitVec 32 := 8#32
  let v222 : BitVec 32 := Scalar.muli v202 c8_i32_81
  let v223 : BitVec 32 := Scalar.addi v222 c0_i32_82
  let v224 : Index := Scalar.indexCast v223
  let c0_83 : Index := 0#32
  ![v224.toNat, 0]
def k0_off14 (k0_t4 : Fin k0_t4_loop.trips) (c0_i32_74 : BitVec 32) (c0_i32_82 : BitVec 32) : Fin 3 → Nat :=
  let c0_i32_35 : BitVec 32 := 0#32
  let c1_i32_37 : BitVec 32 := 1#32
  let arg17 : BitVec 32 := Scf.iv c0_i32_35 c1_i32_37 k0_t4
  let c4_i32_73 : BitVec 32 := 4#32
  let v201 : BitVec 32 := Scalar.muli arg17 c4_i32_73
  let v202 : BitVec 32 := Scalar.addi v201 c0_i32_74
  let c8_i32_81 : BitVec 32 := 8#32
  let v222 : BitVec 32 := Scalar.muli v202 c8_i32_81
  let v223 : BitVec 32 := Scalar.addi v222 c0_i32_82
  let v233 : Index := Scalar.indexCast v223
  let c0_85 : Index := 0#32
  let c0_86 : Index := 0#32
  ![v233.toNat, 0, 0]
def k0_off15 (k0_t4 : Fin k0_t4_loop.trips) (c0_i32_74 : BitVec 32) : Fin 4 → Nat :=
  let c0_i32_35 : BitVec 32 := 0#32
  let c1_i32_37 : BitVec 32 := 1#32
  let arg17 : BitVec 32 := Scf.iv c0_i32_35 c1_i32_37 k0_t4
  let c4_i32_73 : BitVec 32 := 4#32
  let v201 : BitVec 32 := Scalar.muli arg17 c4_i32_73
  let v202 : BitVec 32 := Scalar.addi v201 c0_i32_74
  let v266 : Index := Scalar.indexCast v202
  let c0_95 : Index := 0#32
  ![v266.toNat, 0, 2, 0]
def k0_off16 (k0_t4 : Fin k0_t4_loop.trips) (c0_i32_74 : BitVec 32) : Fin 4 → Nat :=
  let c0_i32_35 : BitVec 32 := 0#32
  let c1_i32_37 : BitVec 32 := 1#32
  let arg17 : BitVec 32 := Scf.iv c0_i32_35 c1_i32_37 k0_t4
  let c4_i32_73 : BitVec 32 := 4#32
  let v201 : BitVec 32 := Scalar.muli arg17 c4_i32_73
  let v202 : BitVec 32 := Scalar.addi v201 c0_i32_74
  let v327 : Index := Scalar.indexCast v202
  let c0_113 : Index := 0#32
  ![v327.toNat, 0, 4, 0]
def k0_off17 (k0_t4 : Fin k0_t4_loop.trips) (c0_i32_74 : BitVec 32) : Fin 4 → Nat :=
  let c0_i32_35 : BitVec 32 := 0#32
  let c1_i32_37 : BitVec 32 := 1#32
  let arg17 : BitVec 32 := Scf.iv c0_i32_35 c1_i32_37 k0_t4
  let c4_i32_73 : BitVec 32 := 4#32
  let v201 : BitVec 32 := Scalar.muli arg17 c4_i32_73
  let v202 : BitVec 32 := Scalar.addi v201 c0_i32_74
  let v388 : Index := Scalar.indexCast v202
  let c0_131 : Index := 0#32
  ![v388.toNat, 0, 6, 0]
@[reducible] def k0_t5_loop : Scf.Loop 32 :=
  let c0_i32_69 : BitVec 32 := 0#32
  let c64_i32_70 : BitVec 32 := 64#32
  let v200 : BitVec 32 := Scalar.addi c0_i32_69 c64_i32_70
  let c1_i32_71 : BitVec 32 := 1#32
  ⟨c0_i32_69, v200, c1_i32_71⟩
def k0_off18 (k0_t5 : Fin k0_t5_loop.trips) : Fin 3 → Nat :=
  let c0_i32_69 : BitVec 32 := 0#32
  let c1_i32_71 : BitVec 32 := 1#32
  let arg17 : BitVec 32 := Scf.iv c0_i32_69 c1_i32_71 k0_t5
  let c32_i32_73 : BitVec 32 := 32#32
  let v201 : BitVec 32 := Scalar.muli arg17 c32_i32_73
  let v202 : Index := Scalar.indexCast v201
  let c0_74 : Index := 0#32
  let c0_75 : Index := 0#32
  ![v202.toNat, 0, 0]
def k0_off19 (k0_t5 : Fin k0_t5_loop.trips) : Fin 4 → Nat :=
  let c0_78 : Index := 0#32
  let c0_i32_69 : BitVec 32 := 0#32
  let c1_i32_71 : BitVec 32 := 1#32
  let arg17 : BitVec 32 := Scf.iv c0_i32_69 c1_i32_71 k0_t5
  let c32_i32_73 : BitVec 32 := 32#32
  let v201 : BitVec 32 := Scalar.muli arg17 c32_i32_73
  let v212 : Index := Scalar.indexCast v201
  let c0_79 : Index := 0#32
  let c0_80 : Index := 0#32
  ![0, v212.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8x8x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x8x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x8x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2_base" => some (((Real.log 10000) * (Real.log 2)⁻¹ : ℝ) : EReal)
  | _ => none
-- ==== ReferenceIdeal.lean ====
abbrev S9x2048x1024 : Shape := ⟨3, ![9, 2048, 1024]⟩
abbrev S9 : Shape := ⟨1, ![9]⟩
abbrev S9x2048x8x128 : Shape := ⟨4, ![9, 2048, 8, 128]⟩
abbrev S64 : Shape := ⟨1, ![64]⟩
abbrev S_ : Shape := ⟨0, ![]⟩
abbrev S9x1 : Shape := ⟨2, ![9, 1]⟩
abbrev S2048 : Shape := ⟨1, ![2048]⟩
abbrev S1x2048 : Shape := ⟨2, ![1, 2048]⟩
abbrev S9x2048 : Shape := ⟨2, ![9, 2048]⟩
abbrev S9x2048x1x1 : Shape := ⟨4, ![9, 2048, 1, 1]⟩
abbrev S1x1x1x64 : Shape := ⟨4, ![1, 1, 1, 64]⟩
abbrev S9x2048x1x64 : Shape := ⟨4, ![9, 2048, 1, 64]⟩
abbrev S9x2048x8x64x2 : Shape := ⟨5, ![9, 2048, 8, 64, 2]⟩
abbrev S9x2048x8x64x1 : Shape := ⟨5, ![9, 2048, 8, 64, 1]⟩
abbrev S9x2048x8x64 : Shape := ⟨4, ![9, 2048, 8, 64]⟩
abbrev S9x8 : Shape := ⟨2, ![9, 8]⟩
abbrev S9x1x8x1 : Shape := ⟨4, ![9, 1, 8, 1]⟩

abbrev nBuf : Space → Nat
  | .hbm => 144
  | .vmem => 0
  | .smem => 0
  | _ => 0

abbrev hbmTy0_0 (i : Nat) : BufTy := match i % 128 with
  | 0 => ⟨S9x2048x1024, .bf16⟩
  | 1 => ⟨S9x2048x1024, .bf16⟩
  | 2 => ⟨S9, .i32⟩
  | 3 => ⟨S9x2048x1024, .f32⟩
  | 4 => ⟨S9x2048x8x128, .f32⟩
  | 5 => ⟨S9x2048x1024, .f32⟩
  | 6 => ⟨S9x2048x8x128, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S9x1, .i32⟩
  | 24 => ⟨S2048, .i32⟩
  | 25 => ⟨S1x2048, .i32⟩
  | 26 => ⟨S9x2048, .i32⟩
  | 27 => ⟨S9x2048, .i32⟩
  | 28 => ⟨S9x2048, .i32⟩
  | 29 => ⟨S9x2048, .f32⟩
  | 30 => ⟨S9x2048x1x1, .f32⟩
  | 31 => ⟨S1x1x1x64, .f32⟩
  | 32 => ⟨S9x2048x1x64, .f32⟩
  | 33 => ⟨S9x2048x1x64, .f32⟩
  | 34 => ⟨S9x2048x1x64, .f32⟩
  | 35 => ⟨S9x2048x1x64, .f32⟩
  | 36 => ⟨S9x2048x1x64, .f32⟩
  | 37 => ⟨S9x2048x8x64x2, .f32⟩
  | 38 => ⟨S9x2048x8x64x1, .f32⟩
  | 39 => ⟨S9x2048x8x64, .f32⟩
  | 40 => ⟨S9x2048x8x64x1, .f32⟩
  | 41 => ⟨S9x2048x8x64, .f32⟩
  | 42 => ⟨S9x2048x8x64, .f32⟩
  | 43 => ⟨S9x2048x8x64, .f32⟩
  | 44 => ⟨S9x2048x8x64, .f32⟩
  | 45 => ⟨S9x2048x8x64, .f32⟩
  | 46 => ⟨S9x2048x8x64, .f32⟩
  | 47 => ⟨S9x2048x8x64, .f32⟩
  | 48 => ⟨S9x2048x8x64, .f32⟩
  | 49 => ⟨S9x2048x8x64, .f32⟩
  | 50 => ⟨S9x2048x8x64, .f32⟩
  | 51 => ⟨S9x2048x8x64, .f32⟩
  | 52 => ⟨S9x2048x8x64x1, .f32⟩
  | 53 => ⟨S9x2048x8x64x1, .f32⟩
  | 54 => ⟨S9x2048x8x64x2, .f32⟩
  | 55 => ⟨S9x2048x8x128, .f32⟩
  | 56 => ⟨S9x2048x8x128, .f32⟩
  | 57 => ⟨S_, .f32⟩
  | 58 => ⟨S9x8, .f32⟩
  | 59 => ⟨S_, .f32⟩
  | 60 => ⟨S9x8, .f32⟩
  | 61 => ⟨S9x8, .f32⟩
  | 62 => ⟨S_, .f32⟩
  | 63 => ⟨S9x8, .f32⟩
  | 64 => ⟨S9x8, .i1⟩
  | 65 => ⟨S9x8, .f32⟩
  | 66 => ⟨S_, .f32⟩
  | 67 => ⟨S_, .f32⟩
  | 68 => ⟨S_, .f32⟩
  | 69 => ⟨S9x8, .f32⟩
  | 70 => ⟨S9x8, .f32⟩
  | 71 => ⟨S9x8, .f32⟩
  | 72 => ⟨S_, .f32⟩
  | 73 => ⟨S9x8, .f32⟩
  | 74 => ⟨S9x8, .f32⟩
  | 75 => ⟨S_, .f32⟩
  | 76 => ⟨S_, .f32⟩
  | 77 => ⟨S9x8, .f32⟩
  | 78 => ⟨S9x8, .f32⟩
  | 79 => ⟨S_, .f32⟩
  | 80 => ⟨S9x8, .f32⟩
  | 81 => ⟨S9x8, .f32⟩
  | 82 => ⟨S9x8, .f32⟩
  | 83 => ⟨S_, .f32⟩
  | 84 => ⟨S9x8, .f32⟩
  | 85 => ⟨S9x8, .f32⟩
  | 86 => ⟨S9x1x8x1, .f32⟩
  | 87 => ⟨S9x2048x8x128, .f32⟩
  | 88 => ⟨S9x2048x8x128, .f32⟩
  | 89 => ⟨S_, .f32⟩
  | 90 => ⟨S_, .f32⟩
  | 91 => ⟨S_, .f32⟩
  | 92 => ⟨S9x2048x8x128, .f32⟩
  | 93 => ⟨S9x2048x8x128, .f32⟩
  | 94 => ⟨S_, .f32⟩
  | 95 => ⟨S9x2048x8x128, .f32⟩
  | 96 => ⟨S9x2048x8x128, .f32⟩
  | 97 => ⟨S9x2048x8x128, .fp8e4m3⟩
  | 98 => ⟨S9x2048x8x128, .fp8e4m3⟩
  | 99 => ⟨S9x8, .f32⟩
  | 100 => ⟨S9x2048x8x128, .f32⟩
  | 101 => ⟨S_, .f32⟩
  | 102 => ⟨S9x8, .f32⟩
  | 103 => ⟨S_, .f32⟩
  | 104 => ⟨S9x8, .f32⟩
  | 105 => ⟨S9x8, .f32⟩
  | 106 => ⟨S_, .f32⟩
  | 107 => ⟨S9x8, .f32⟩
  | 108 => ⟨S9x8, .i1⟩
  | 109 => ⟨S9x8, .f32⟩
  | 110 => ⟨S_, .f32⟩
  | 111 => ⟨S_, .f32⟩
  | 112 => ⟨S_, .f32⟩
  | 113 => ⟨S9x8, .f32⟩
  | 114 => ⟨S9x8, .f32⟩
  | 115 => ⟨S9x8, .f32⟩
  | 116 => ⟨S_, .f32⟩
  | 117 => ⟨S9x8, .f32⟩
  | 118 => ⟨S9x8, .f32⟩
  | 119 => ⟨S_, .f32⟩
  | 120 => ⟨S_, .f32⟩
  | 121 => ⟨S9x8, .f32⟩
  | 122 => ⟨S9x8, .f32⟩
  | 123 => ⟨S_, .f32⟩
  | 124 => ⟨S9x8, .f32⟩
  | 125 => ⟨S9x8, .f32⟩
  | 126 => ⟨S9x8, .f32⟩
  | 127 => ⟨S_, .f32⟩
  | _ => ⟨S9x2048x1024, .bf16⟩

abbrev hbmTy0_1 (i : Nat) : BufTy := match i % 128 with
  | 0 => ⟨S9x8, .f32⟩
  | 1 => ⟨S9x8, .f32⟩
  | 2 => ⟨S9x1x8x1, .f32⟩
  | 3 => ⟨S9x2048x8x128, .f32⟩
  | 4 => ⟨S9x2048x8x128, .f32⟩
  | 5 => ⟨S_, .f32⟩
  | 6 => ⟨S_, .f32⟩
  | 7 => ⟨S_, .f32⟩
  | 8 => ⟨S9x2048x8x128, .f32⟩
  | 9 => ⟨S9x2048x8x128, .f32⟩
  | 10 => ⟨S_, .f32⟩
  | 11 => ⟨S9x2048x8x128, .f32⟩
  | 12 => ⟨S9x2048x8x128, .f32⟩
  | 13 => ⟨S9x2048x8x128, .fp8e4m3⟩
  | 14 => ⟨S9x2048x8x128, .fp8e4m3⟩
  | 15 => ⟨S9x8, .f32⟩
  | _ => ⟨S9x2048x1024, .bf16⟩

abbrev hbmTy (i : Nat) : BufTy := match i / 128 with
  | 0 => hbmTy0_0 i
  | 1 => hbmTy0_1 i
  | _ => ⟨S9x2048x1024, .bf16⟩

abbrev bufTy : (tb : Table) → Fin (tcTables nBuf tb) → BufTy
  | .hbm, ⟨i, _⟩ => hbmTy i
  | _, _ => ⟨S9x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_8 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_call0_v0 : Ref sig .tc := ⟨.hbm, 76, rfl⟩
abbrev main_call0_v1 : Ref sig .tc := ⟨.hbm, 77, rfl⟩
abbrev main_v62 : Ref sig .tc := ⟨.hbm, 78, rfl⟩
abbrev main_cst_10 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_cst_13 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v71 : Ref sig .tc := ⟨.hbm, 96, rfl⟩
abbrev main_v72 : Ref sig .tc := ⟨.hbm, 97, rfl⟩
abbrev main_v73_0 : Ref sig .tc := ⟨.hbm, 98, rfl⟩
abbrev main_v73_1 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_call2_v0 : Ref sig .tc := ⟨.hbm, 120, rfl⟩
abbrev main_call2_v1 : Ref sig .tc := ⟨.hbm, 121, rfl⟩
abbrev main_v88 : Ref sig .tc := ⟨.hbm, 122, rfl⟩
abbrev main_cst_20 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_21 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_cst_23 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_v97 : Ref sig .tc := ⟨.hbm, 140, rfl⟩
abbrev main_v98 : Ref sig .tc := ⟨.hbm, 141, rfl⟩
abbrev main_v99_0 : Ref sig .tc := ⟨.hbm, 142, rfl⟩
abbrev main_v99_1 : Ref sig .tc := ⟨.hbm, 143, rfl⟩

abbrev nD : Nat := 1
abbrev τ : Topo := Topo.v7x

variable {F : FTy → Type} [FloatOps F]
-- ==== Proof.KernelBody.lean ====
/-
  The frame of `Kernel`: the body run once at arbitrary operands, in the two cases of its one branch (the first grid point
  fills the angle tables, the later points read them), and the launch around it. Nothing is said of what the body leaves
  in the windows it writes.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

/-- The branch's condition: the grid point is the first. -/
abbrev firstPoint (i : grid0.Coords) : Prop :=
  Scalar.cmpi .ne (Scalar.extui (Scalar.cmpi .eq (BitVec.ofNat 32 (i 0).val) 0#32) : BitVec 32) 0#32 = 1#1

theorem kernelRun_later (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (hb : ¬ firstPoint i) (K : PUnit → sProp (MT nD τ sig Unit (Elt F) ℕ (UR sig nD τ) ℕ)) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rope_kv_quant_eq_skeleton]; unfold cc0_rope_kv_quant_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

theorem kernelRun_first (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (hb : firstPoint i) (K : PUnit → sProp (MT nD τ sig Unit (Elt F) ℕ (UR sig nD τ) ℕ)) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rope_kv_quant_eq_skeleton]; unfold cc0_rope_kv_quant_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

theorem kernelRun (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (K : PUnit → sProp (MT nD τ sig Unit (Elt F) ℕ (UR sig nD τ) ℕ)) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hb : firstPoint i
  · exact kernelRun_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hb K
  · exact kernelRun_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hb K

/-! ## The proof data and the body obligation -/

variable (m : (ℓ : Loc nD τ sig) → Buf (Elt F) ℓ) (ρ : Dev nD → PrngReg)

/-- Every window forgotten: the frame reads nothing of what the body leaves in them. -/
def forgets0 : Fin 7 → Bool := fun _ => true

/-- The proof data on core `c`: the arrays as the region finds them, the scratch at some contents between the points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The scratch buffers between two points, one conjunct each. -/
theorem PhiA_eq (c : Dev nD) :
    (Pipeline.ΦA (U := UR sig nD τ) (Val := Elt F) spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA
  rw [scopedRest0_eq]; simp only [owns_whole]; try rfl

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d))

/-- The body at a point: the scratch taken out of the invariant, the run, the scratch put back. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6, S7, S8⟩, Hg⟩, HO, W0, W1, W2, W3, W4, W5, W6⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨W0, W1, W2, W3, W4, W5, W6, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  iexact W6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- What the host lines after the region write. -/
def tailWrites : Finset (Ref sig .tc) := {main_v5, main_v6, main_v7, main_v8}

theorem sfx_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl <;>
    simp only [StableHlo.unary_writes, StableHlo.reshape_writes, Finset.mem_singleton] at hb <;>
    (have := Proc.devRef_injective _ hb; subst this; decide)

set_option backward.isDefEq.respectTransparency.types false in
theorem run_main :
    θ_run defs (onTc (τ := τ) (main (F := F))) (s₀ m ρ)
      (fun r => Pipeline.RDat.FramePostR (cfgs 0) (fun c => (dats m 0 c).toRForget forgets0) tailWrites
        (fun c b => V0 m c (Proc.devRef .tc b)) r ∧ r.2.sem = fun _ => 0) :=
  Pipeline.θ_run_frame_around_T_forget (Q' := _) cfgs (dats m) (0 : Fin 1) launch0 defs₀ Variants.none forgets0 tailWrites m ρ main
    (fun c => (body_obligation m c).loose) (fun c => (dats m 0 c).share_full fun _ => rfl) (fun _ _ => rfl)
    (V0 m) [hostOps1] sfx_sub sfx_fresh sfx_keeps sfx_writes (hmain m Variants.none) (A_eq m) (fun _ _ => rfl)
    (hQ' := fun _ h => h)

/-- The frame: the argument arrays end as launched, and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs (onTc (τ := τ) (main (F := F))) (s₀ m ρ)).mono (fun r h => ⟨fun c => ⟨?_, ?_, ?_⟩, h.2⟩) (run_main m ρ)
  · exact ((h.1 c).2 main_arg0 (by decide)).trans (V_main_arg0 m c)
  · exact ((h.1 c).2 main_arg1 (by decide)).trans (V_main_arg1 m c)
  · exact (Pipeline.RDat.FramePostR.arr_in h.1 c 0 rfl).trans ((A_eq m c 0).trans (V_main_arg2 m c))

end Cert.Kernel.Hand

end
-- ==== Proof.KernelIdealBody.lean ====
/-
  The frame of `KernelIdeal`: the body run once at arbitrary operands, in the two cases of its one branch (the first grid point
  fills the angle tables, the later points read them), and the launch around it. Nothing is said of what the body leaves
  in the windows it writes.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxHeartbeats 4000000
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [∀ e, Nonempty (Elt F e)]

/-- The branch's condition: the grid point is the first. -/
abbrev firstPoint (i : grid0.Coords) : Prop :=
  Scalar.cmpi .ne (Scalar.extui (Scalar.cmpi .eq (BitVec.ofNat 32 (i 0).val) 0#32) : BitVec 32) 0#32 = 1#1

/-- The body over its operands, the part that holds the second loop over the rows in its folded form. -/
def bodySkel (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole) :
    Prog (TpuEff nD τ sig (Elt F) Λ₀ .tc) (PUnit) := do
  let ⟨v10, v28, v36⟩ : Σ' (v10 : IVec S8x128 32) (v28 : FVec F S8x128 .f32), IVec S8x128 32 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 -- statements 1–60 of 298: their part
  let ⟨v78, v80, v82⟩ : Σ' (v78 : IVec S8x128 32) (v80 : IVec S8x128 32), IVec S8x128 32 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 v36 -- statements 61–120 of 298: their part
  let v118 : FVec F S8x128 .f32 ← k0_part63_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 -- statements 121–180 of 298: their part
  let ⟨v120, v163, c2_i32_54⟩ : Σ' (v120 : FVec F S8x128 .f32) (v163 : IVec S8x128 32), BitVec 32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v118 -- statements 181–240 of 298: their part
  let v197 : Vec F S1x8x128 .f32 ← Prog.lift (.load arg6 (Rect.unit (s := S1x8x128) ![0, 0, 0] S1x8x128.size inb_S1x8x128_S1x8x128_0_0_0).toLoadRect (View.loadsAt_vmem h_S1x8x128)) -- %197 = vector.load %arg6[%c0_66, %c0_67, %c0_68] : memref<1x8x128xf32, #tpu.memory_space<vmem>>, vector<1x8x128xf32>  @ test_k:191
  -- %198 = vector.shape_cast %197 : vector<1x8x128xf32> to vector<8x128xf32>  @ test_k:191  — not in the skeleton
  Prog.lift (.store arg6 (Rect.unit (s := S1x8x128) ![0, 0, 0] S1x8x128.size inb_S1x8x128_S1x8x128_0_0_0) (k0_pay444 v120 v163 c2_i32_54) Finset.univ (View.stores_vmem_bits_univ h_S1x8x128 rfl) (.inl rfl)) -- tpu.vector_store %arg6[%c0_66, %c0_67, %c0_68], %199 {strides = array<i32>} : memref<1x8x128xf32, #tpu.memory_space<vmem>>, vector<1x8x128xf32>,  @ test_k:191
  -- %200 = arith.addi %c0_i32_69, %c64_i32_70 : i32  @ test_k:199  — not in the skeleton
  Scf.Loop.for k0_t5_loop k0_t5_ok ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v120 v163 c2_i32_54) -- scf.for %arg17 = %c0_i32_69 to %200 step %c1_i32_71 : i32 {  @ test_k:199
  pure ⟨⟩

set_option maxRecDepth 65536 in
theorem body_eq (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole) :
    cc0_rope_kv_quant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 = (do bodySkel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16; pure ⟨⟩) := by
  rw [cc0_rope_kv_quant_eq_skeleton]; unfold cc0_rope_kv_quant_skel; rw [k0_part65_eq_skeleton]; rfl

theorem kernelRun_later (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (hb : ¬ firstPoint i) (K : PUnit → sProp (MT nD τ sig Unit (Elt F) ℕ (UR sig nD τ) ℕ)) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq]
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

theorem kernelRun_first (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (hb : firstPoint i) (K : PUnit → sProp (MT nD τ sig Unit (Elt F) ℕ (UR sig nD τ) ℕ)) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq]
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  iexists _, _; isplitr; swap; · iexact H16
  ipureintro; rfl

theorem kernelRun (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (K : PUnit → sProp (MT nD τ sig Unit (Elt F) ℕ (UR sig nD τ) ℕ)) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := F)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases hb : firstPoint i
  · exact kernelRun_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hb K
  · exact kernelRun_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hb K

/-! ## The proof data and the body obligation -/

variable (m : (ℓ : Loc nD τ sig) → Buf (Elt F) ℓ) (ρ : Dev nD → PrngReg)

/-- Every window forgotten: the frame reads nothing of what the body leaves in them. -/
def forgets0 : Fin 7 → Bool := fun _ => true

/-- The proof data on core `c`: the arrays as the region finds them, the scratch at some contents between the points. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The scratch buffers between two points, one conjunct each. -/
theorem PhiA_eq (c : Dev nD) :
    (Pipeline.ΦA (U := UR sig nD τ) (Val := Elt F) spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA
  rw [scopedRest0_eq]; simp only [owns_whole]; try rfl

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d))
def bodyPost (c : Dev nD) (t : Fin cfg0.N) : sProp (MT nD τ sig Unit (Elt F) ℕ (UR sig nD τ) ℕ) :=
  iprop((dats m 0 c).Φ t.succ ∗ (dats m 0 c).owesAt () t.succ
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d))

/-- The body at a point: the scratch taken out of the invariant, the run, the scratch put back. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨S0, S1, S2, S3, S4, S5, S6, S7, S8⟩, Hg⟩, HO, W0, W1, W2, W3, W4, W5, W6⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨W0, W1, W2, W3, W4, W5, W6, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  iexact W6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- What the host lines after the region write. -/
def tailWrites : Finset (Ref sig .tc) := {main_v5, main_v6, main_v7, main_v8}

theorem sfx_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl | rfl | rfl | rfl <;>
    simp only [StableHlo.unary_writes, StableHlo.reshape_writes, Finset.mem_singleton] at hb <;>
    (have := Proc.devRef_injective _ hb; subst this; decide)

set_option backward.isDefEq.respectTransparency.types false in
theorem run_main :
    θ_run defs (onTc (τ := τ) (main (F := F))) (s₀ m ρ)
      (fun r => Pipeline.RDat.FramePostR (cfgs 0) (fun c => (dats m 0 c).toRForget forgets0) tailWrites
        (fun c b => V0 m c (Proc.devRef .tc b)) r ∧ r.2.sem = fun _ => 0) :=
  Pipeline.θ_run_frame_around_T_forget (Q' := _) cfgs (dats m) (0 : Fin 1) launch0 defs₀ Variants.none forgets0 tailWrites m ρ main
    (fun c => (body_obligation m c).loose) (fun c => (dats m 0 c).share_full fun _ => rfl) (fun _ _ => rfl)
    (V0 m) [hostOps1] sfx_sub sfx_fresh sfx_keeps sfx_writes (hmain m Variants.none) (A_eq m) (fun _ _ => rfl)
    (hQ' := fun _ h => h)

/-- The frame: the argument arrays end as launched, and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run defs (onTc (τ := τ) (main (F := F))) (s₀ m ρ)).mono (fun r h => ⟨fun c => ⟨?_, ?_, ?_⟩, h.2⟩) (run_main m ρ)
  · exact ((h.1 c).2 main_arg0 (by decide)).trans (V_main_arg0 m c)
  · exact ((h.1 c).2 main_arg1 (by decide)).trans (V_main_arg1 m c)
  · exact (Pipeline.RDat.FramePostR.arr_in h.1 c 0 rfl).trans ((A_eq m c 0).trans (V_main_arg2 m c))

end Cert.KernelIdeal.Hand

end
-- ==== Proof.Preserves.lean ====
/-
  The idealization's ledger: each rewrite of the kernel's module holds by its rule's statement — the constant named
  `log2_base` is the logarithm of the rotary base to base two, and the words that hold two bf16 rows are the rows.
-/
module

public import proofs.«01_k».proof.Defs
public import Idealize.ShloMosaic.Lib.Bf16Pair

@[expose] public section

namespace Cert.Ledger

open Idealize.ShloMosaic

theorem preserves : Cert.preserves_Kernel_KernelIdeal :=
  ⟨IdealRules.named_const.statement Cert.KernelIdeal.κ "log2_base" .f32 0x41549A78#32 (((Real.log 10000) * (Real.log 2)⁻¹ : ℝ) : EReal) rfl,
    IdealRules.bf16_pair.statement Cert.KernelIdeal.S1x8x2x128 Cert.KernelIdeal.S1x8x1x128,
    IdealRules.bf16_pair.statement Cert.KernelIdeal.S16x128 Cert.KernelIdeal.S8x128,
    IdealRules.bf16_pair.packStatement Cert.KernelIdeal.S8x128⟩

end Cert.Ledger
-- ==== Proof.Scale.lean ====
/-
  The power-of-two scale. The kernel finds the exponent of the scaled maximum `m` by a binary search over the exponent
  field of a float: eight comparisons of `m` against the float whose exponent field is the candidate. The reference takes
  the floor of a logarithm. On `0 ≤ m < 2^123` both give the same power of two, and the same inverse.
-/
module

public import Idealize.ShloMosaic.PureOps.Ideal
public import Mathlib.Analysis.SpecialFunctions.Pow.Real
public import Mathlib.Analysis.SpecialFunctions.Log.Basic
public import Idealize.ShloMosaic.Lib.Tactic

@[expose] public section

noncomputable section

namespace Cert.Rope

open Idealize.ShloMosaic

/-- The float with exponent field `t` and zero mantissa. -/
def pw (t : BitVec 32) : EReal := Ideal.ofBits .f32 (IntOp.shli .vector t 23#32)

theorem pw_zero : pw 0#32 = 0 := by
  rw [pw, show IntOp.shli .vector 0#32 23#32 = 0#32 from rfl]
  simp [Ideal.ofBits, Ideal.ieee]

theorem field_bits (t : Fin 256) :
    ((IntOp.shli .vector (BitVec.ofNat 32 t.val) 23#32).extractLsb' 31 1 == 1#1) = false ∧
    ((IntOp.shli .vector (BitVec.ofNat 32 t.val) 23#32).extractLsb' 23 8).toNat = t.val ∧
    ((IntOp.shli .vector (BitVec.ofNat 32 t.val) 23#32).extractLsb' 0 23).toNat = 0 := by
  revert t
  decide +kernel

theorem pw_of {t : ℕ} (h1 : 1 ≤ t) (h2 : t ≤ 254) : pw (BitVec.ofNat 32 t) = (((2 : ℝ) ^ ((t : ℤ) - 127) : ℝ) : EReal) := by
  have hb := field_bits ⟨t, by omega⟩
  obtain ⟨b1, b2, b3⟩ := hb
  simp only [pw, Ideal.ofBits, Ideal.ieee]
  simp only [Nat.reduceAdd] at b1 b2 b3 ⊢
  rw [b2, b3, b1]
  rw [if_neg (by omega), if_neg (by omega)]
  refine congrArg (fun r : ℝ => (r : EReal)) ?_
  norm_num
  rw [show (8388608 : ℝ) = (2 : ℝ) ^ (23 : ℤ) by norm_num, ← zpow_add₀ (by norm_num), show (23 : ℤ) + ((t : ℤ) - 127 - 23) = (t : ℤ) - 127 by ring]

/-- One step of the search. -/
def step (m : EReal) (b f : BitVec 32) : BitVec 32 :=
  Scalar.select (Ideal.cmp .oge m (pw (IntOp.addi f b))) (IntOp.addi f b) f

/-- The whole search, from the empty field. -/
def field (m : EReal) : BitVec 32 :=
  step m 1#32 (step m 2#32 (step m 4#32 (step m 8#32 (step m 16#32 (step m 32#32 (step m 64#32 (step m 128#32 0#32)))))))

/-- What the search knows of its field before the step of width `w / 2`. -/
def Found (m : EReal) (w : ℕ) (f : BitVec 32) : Prop :=
  ∃ t : ℕ, f = BitVec.ofNat 32 t ∧ w ∣ t ∧ t ≤ 250 ∧ pw f ≤ m ∧ (t + w ≤ 254 → m < pw (BitVec.ofNat 32 (t + w)))

theorem Found.step {m : EReal} {w : ℕ} {f : BitVec 32} (hm : m < pw 250#32) (h : Found m (2 * w) f) (hw : 0 < w) (hw' : 2 * w ∣ 256) :
    Found m w (step m (BitVec.ofNat 32 w) f) := by
  obtain ⟨t, rfl, hd, ht, hle, hlt⟩ := h
  have hadd : IntOp.addi (BitVec.ofNat 32 t) (BitVec.ofNat 32 w) = BitVec.ofNat 32 (t + w) := by
    simp [IntOp.addi, BitVec.ofNat_add]
  have htw : t + 2 * w ≤ 256 := by
    obtain ⟨a, rfl⟩ := hd
    obtain ⟨b, hb⟩ := hw'
    have : a < b := by
      by_contra hc
      have := Nat.mul_le_mul_left (2 * w) (Nat.le_of_not_lt hc)
      omega
    have := Nat.mul_le_mul_left (2 * w) (show a + 1 ≤ b from this)
    rw [Nat.mul_add] at this
    omega
  unfold Cert.Rope.step
  rw [hadd]
  by_cases hc : pw (BitVec.ofNat 32 (t + w)) ≤ m
  · have : Ideal.cmp .oge m (pw (BitVec.ofNat 32 (t + w))) = 1#1 := by simp [Ideal.cmp, hc]
    rw [this]
    have hs : Scalar.select (1#1) (BitVec.ofNat 32 (t + w)) (BitVec.ofNat 32 t) = BitVec.ofNat 32 (t + w) := rfl
    rw [hs]
    have h250 : t + w ≤ 250 := by
      by_contra hgt
      by_cases h255 : t + w = 255
      · subst_vars
        have h2 : pw (BitVec.ofNat 32 255) = ⊤ := by
          have hb := field_bits ⟨255, by omega⟩
          obtain ⟨b1, b2, b3⟩ := hb
          simp only [pw, Ideal.ofBits, Ideal.ieee]
          simp only [Nat.reduceAdd] at b1 b2 b3 ⊢
          rw [b2, b3, b1]
          simp
        rw [h255, h2] at hc
        have := lt_of_le_of_lt hc hm
        exact absurd this (by simp)
      · rw [pw_of (by omega) (by omega)] at hc
        have h3 := lt_of_le_of_lt hc hm
        rw [show (250#32) = BitVec.ofNat 32 250 from rfl, pw_of (by omega) (by omega)] at h3
        rw [EReal.coe_lt_coe_iff] at h3
        have := (zpow_lt_zpow_iff_right₀ (by norm_num : (1 : ℝ) < 2)).1 h3
        omega
    refine ⟨t + w, rfl, ?_, h250, hc, ?_⟩
    · exact Nat.dvd_add (Dvd.dvd.trans (Dvd.intro_left 2 rfl) hd) (dvd_refl w)
    · intro h; have := hlt (by omega); rwa [show t + w + w = t + 2 * w by omega]
  · have : Ideal.cmp .oge m (pw (BitVec.ofNat 32 (t + w))) = 0#1 := by simp [Ideal.cmp, hc]
    rw [this]
    have hs : Scalar.select (0#1) (BitVec.ofNat 32 (t + w)) (BitVec.ofNat 32 t) = BitVec.ofNat 32 t := rfl
    rw [hs]
    exact ⟨t, rfl, Dvd.dvd.trans (Dvd.intro_left 2 rfl) hd, ht, hle, fun _ => lt_of_not_ge hc⟩

theorem field_found {m : EReal} (h0 : 0 ≤ m) (hm : m < pw 250#32) : Found m 1 (field m) := by
  have h8 : Found m 256 0#32 := ⟨0, rfl, by simp, by omega, by rw [pw_zero]; exact h0, fun h => by omega⟩
  have h7 := h8.step (w := 128) hm (by omega) (by decide)
  have h6 := h7.step (w := 64) hm (by omega) (by decide)
  have h5 := h6.step (w := 32) hm (by omega) (by decide)
  have h4 := h5.step (w := 16) hm (by omega) (by decide)
  have h3 := h4.step (w := 8) hm (by omega) (by decide)
  have h2 := h3.step (w := 4) hm (by omega) (by decide)
  have h1 := h2.step (w := 2) hm (by omega) (by decide)
  exact h1.step (w := 1) hm (by omega) (by decide)

/-- The exponent the kernel takes: that of the field, or zero at a zero or a full field. -/
def expo (m : EReal) : BitVec 32 :=
  Scalar.select (IntOp.ori (IntOp.cmpi .eq (field m) 0#32) (IntOp.cmpi .eq (field m) 255#32)) 0#32 (IntOp.subi (field m) 126#32)

/-- The kernel's scale and its inverse. -/
def kScale (m : EReal) : EReal := pw (IntOp.addi 127#32 (expo m))
def kInv (m : EReal) : EReal := pw (IntOp.subi 127#32 (expo m))

/-- The reference's exponent: `⌊log₂ m⌋ + 1`, and zero where `m` is below the least normal float. -/
def rExpo (m : EReal) : EReal :=
  Scalar.select (Ideal.cmp .olt m (Ideal.ofBits .f32 0x00800000#32)) (Ideal.ofBits .f32 0x00000000#32)
    (Ideal.liftRound Int.floor (Ideal.div (Ideal.log m) (Ideal.log (Ideal.ofBits .f32 0x40000000#32))) + Ideal.ofBits .f32 0x3F800000#32)
def rScale (m : EReal) : EReal := Ideal.pow (Ideal.ofBits .f32 0x40000000#32) (rExpo m)
def rInv (m : EReal) : EReal := Ideal.pow (Ideal.ofBits .f32 0x40000000#32) (-(rExpo m))

theorem ofBits_two : Ideal.ofBits .f32 0x40000000#32 = ((2 : ℝ) : EReal) := by
  have := pw_of (t := 128) (by omega) (by omega)
  rw [pw, show IntOp.shli .vector (BitVec.ofNat 32 128) 23#32 = 0x40000000#32 from rfl] at this
  rw [this]; norm_num

theorem ofBits_one : Ideal.ofBits .f32 0x3F800000#32 = ((1 : ℝ) : EReal) := by
  have := pw_of (t := 127) (by omega) (by omega)
  rw [pw, show IntOp.shli .vector (BitVec.ofNat 32 127) 23#32 = 0x3F800000#32 from rfl] at this
  rw [this]; norm_num

theorem ofBits_zero : Ideal.ofBits .f32 0x00000000#32 = ((0 : ℝ) : EReal) := by
  simp [Ideal.ofBits, Ideal.ieee]

theorem ofBits_least : Ideal.ofBits .f32 0x00800000#32 = (((2 : ℝ) ^ (-126 : ℤ) : ℝ) : EReal) := by
  have := pw_of (t := 1) (by omega) (by omega)
  rw [pw, show IntOp.shli .vector (BitVec.ofNat 32 1) 23#32 = 0x00800000#32 from rfl] at this
  rw [this]; norm_num

theorem ieee_normal (e m : ℕ) {w : ℕ} (b : BitVec w) (s : Bool) (E T : ℕ) (h1 : (b.extractLsb' (e + m) 1 == 1#1) = s)
    (h2 : (b.extractLsb' m e).toNat = E) (h3 : (b.extractLsb' 0 m).toNat = T) (hE : E ≠ 2 ^ e - 1) (hE0 : E ≠ 0) :
    Ideal.ieee e m b = (((if s then -1 else 1) * (2 ^ m + T : ℕ) * (2 : ℝ) ^ ((E : ℤ) - (2 ^ (e - 1) - 1) - m) : ℝ) : EReal) := by
  simp only [Ideal.ieee, h1, h2, h3, if_neg hE, if_neg hE0]

theorem ofBits_448 : Ideal.ofBits .f32 0x43E00000#32 = ((448 : ℝ) : EReal) := by
  refine (ieee_normal 8 23 (0x43E00000#32) false 135 6291456 rfl rfl rfl (by norm_num) (by norm_num)).trans (congrArg (fun r : ℝ => (r : EReal)) ?_)
  norm_num
theorem ofBits_448n : Ideal.ofBits .f32 0xC3E00000#32 = ((-448 : ℝ) : EReal) := by
  refine (ieee_normal 8 23 (0xC3E00000#32) true 135 6291456 rfl rfl rfl (by norm_num) (by norm_num)).trans (congrArg (fun r : ℝ => (r : EReal)) ?_)
  norm_num
theorem ofBits_max : Ideal.ofBits .bf16 0x43E0#16 = Ideal.ofBits .f32 0x43E00000#32 := by
  rw [ofBits_448]
  refine (ieee_normal 8 7 (0x43E0#16) false 135 96 rfl rfl rfl (by norm_num) (by norm_num)).trans (congrArg (fun r : ℝ => (r : EReal)) ?_)
  norm_num
theorem ofBits_min : Ideal.ofBits .bf16 0xC3E0#16 = Ideal.ofBits .f32 0xC3E00000#32 := by
  rw [ofBits_448n]
  refine (ieee_normal 8 7 (0xC3E0#16) true 135 96 rfl rfl rfl (by norm_num) (by norm_num)).trans (congrArg (fun r : ℝ => (r : EReal)) ?_)
  norm_num
/-- The rounded reciprocal of 448 is positive and below `2⁻⁸`. -/
theorem ofBits_recip : ∃ r : ℝ, Ideal.ofBits .f32 0x3B124925#32 = (r : EReal) ∧ 0 < r ∧ r < 2 ^ (-8 : ℤ) := by
  refine ⟨_, ieee_normal 8 23 (0x3B124925#32) false 118 1198373 rfl rfl rfl (by norm_num) (by norm_num), ?_, ?_⟩ <;> norm_num

/-- The common exponent, as an integer. -/
theorem expo_cases {m : EReal} (h0 : 0 ≤ m) (hm : m < pw 250#32) :
    ∃ e : ℤ, kScale m = (((2 : ℝ) ^ e : ℝ) : EReal) ∧ kInv m = (((2 : ℝ) ^ (-e) : ℝ) : EReal) ∧ rExpo m = ((e : ℝ) : EReal) := by
  obtain ⟨t, hf, -, ht, hle, hlt⟩ := field_found h0 hm
  have hlt := hlt (by omega)
  rw [hf] at hle
  rcases Nat.eq_zero_or_pos t with rfl | hpos
  · refine ⟨0, ?_, ?_, ?_⟩
    · have : expo m = 0#32 := by simp only [expo, hf]; rfl
      rw [kScale, this, show IntOp.addi 127#32 0#32 = BitVec.ofNat 32 127 from rfl, pw_of (by omega) (by omega)]; norm_num
    · have : expo m = 0#32 := by simp only [expo, hf]; rfl
      rw [kInv, this, show IntOp.subi 127#32 0#32 = BitVec.ofNat 32 127 from rfl, pw_of (by omega) (by omega)]; norm_num
    · rw [rExpo, ofBits_least]
      rw [pw_of (by omega) (by omega)] at hlt
      have : Ideal.cmp .olt m (((2 : ℝ) ^ (-126 : ℤ) : ℝ) : EReal) = 1#1 := by
        have hlt' : m < (((2 : ℝ) ^ (-126 : ℤ) : ℝ) : EReal) := by
          convert hlt using 3; norm_num
        simp only [Ideal.cmp, hlt', decide_true]; rfl
      rw [this]
      show Ideal.ofBits .f32 0x00000000#32 = _
      rw [ofBits_zero]; norm_num
  · have hfin : ∃ r : ℝ, m = (r : EReal) := by
      refine ⟨m.toReal, (EReal.coe_toReal ?_ ?_).symm⟩
      · exact (lt_of_lt_of_le hm le_top).ne
      · intro h; rw [h] at h0; exact absurd h0 (by simp)
    obtain ⟨r, rfl⟩ := hfin
    rw [pw_of (by omega) (by omega), EReal.coe_le_coe_iff] at hle
    rw [pw_of (by omega) (by omega), EReal.coe_lt_coe_iff] at hlt
    have hr : 0 < r := lt_of_lt_of_le (by positivity) hle
    have he : expo (r : EReal) = IntOp.subi (BitVec.ofNat 32 t) 126#32 := by
      simp only [expo, hf]
      have h1 : IntOp.cmpi .eq (BitVec.ofNat 32 t) 0#32 = 0#1 := by
        interval_cases t <;> rfl
      have h2 : IntOp.cmpi .eq (BitVec.ofNat 32 t) 255#32 = 0#1 := by
        interval_cases t <;> rfl
      rw [h1, h2]; rfl
    refine ⟨(t : ℤ) - 126, ?_, ?_, ?_⟩
    · rw [kScale, he, show IntOp.addi 127#32 (IntOp.subi (BitVec.ofNat 32 t) 126#32) = BitVec.ofNat 32 (t + 1) by
        interval_cases t <;> rfl, pw_of (by omega) (by omega)]
      congr 2; push_cast; ring
    · rw [kInv, he, show IntOp.subi 127#32 (IntOp.subi (BitVec.ofNat 32 t) 126#32) = BitVec.ofNat 32 (253 - t) by
        interval_cases t <;> rfl, pw_of (by omega) (by omega)]
      congr 2; rw [Nat.cast_sub (by omega)]; push_cast; ring
    · rw [rExpo, ofBits_least]
      have hge : (2 : ℝ) ^ (-126 : ℤ) ≤ r := by
        refine le_trans ?_ hle
        exact zpow_le_zpow_right₀ (by norm_num) (by omega)
      have : Ideal.cmp .olt (r : EReal) (((2 : ℝ) ^ (-126 : ℤ) : ℝ) : EReal) = 0#1 := by
        have h : ¬ ((r : EReal) < (((2 : ℝ) ^ (-126 : ℤ) : ℝ) : EReal)) := by
          rw [EReal.coe_lt_coe_iff]; exact not_lt.2 hge
        simp only [Ideal.cmp, h, decide_false]; rfl
      rw [this]
      show Ideal.liftRound Int.floor (Ideal.div (Ideal.log r) (Ideal.log (Ideal.ofBits .f32 0x40000000#32))) + Ideal.ofBits .f32 0x3F800000#32 = _
      rw [ofBits_two, ofBits_one, Ideal.log_coe, Ideal.log_coe, if_neg (not_le.2 hr), if_neg (by norm_num)]
      have hl2 : 0 < Real.log 2 := Real.log_pos (by norm_num)
      rw [Ideal.div_coe hl2.ne', ← EReal.coe_mul, mul_one_div, Ideal.liftRound_coe]
      have hfl : Int.floor (Real.log r / Real.log 2) = (t : ℤ) - 127 := by
        rw [Int.floor_eq_iff]
        constructor
        · rw [le_div_iff₀ hl2]
          have := Real.log_le_log (by positivity) hle
          rwa [Real.log_zpow] at this
        · rw [div_lt_iff₀ hl2]
          have := Real.log_lt_log hr hlt
          rw [Real.log_zpow] at this
          refine lt_of_lt_of_eq this ?_
          push_cast; ring
      rw [hfl, ← EReal.coe_add]
      congr 1; push_cast; ring

theorem scale_eq {m : EReal} (h0 : 0 ≤ m) (hm : m < pw 250#32) : kScale m = rScale m := by
  obtain ⟨e, h1, -, h3⟩ := expo_cases h0 hm
  rw [h1, rScale, h3, ofBits_two, Ideal.pow_coe_coe]
  congr 1; exact (Real.rpow_intCast 2 e).symm

theorem inv_eq {m : EReal} (h0 : 0 ≤ m) (hm : m < pw 250#32) : kInv m = rInv m := by
  obtain ⟨e, -, h2, h3⟩ := expo_cases h0 hm
  rw [h2, rInv, h3, ofBits_two, ← EReal.coe_neg, Ideal.pow_coe_coe]
  congr 1
  rw [show (-(e : ℝ)) = ((-e : ℤ) : ℝ) by push_cast; rfl]
  exact (Real.rpow_intCast 2 (-e)).symm

end Cert.Rope

end
-- ==== Proof.VLoops.lean ====
/-
  The loops over the second operand: the maximum of the absolute values, and the codes.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import proofs.«01_k».proof.Proof.Scale

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

/-- What a loop's pieces leave, when every piece agrees with one function and the pieces cover the buffer. -/
theorem read_loop {sg : RefSig} {κ : Kind} {sp : Space} {s : Shape} {e : EltTy} {Val : EltTy → Type} (v : View sg κ sp s e)
    (f : v.ty.Contents Val) (G : s.Idx → Val e) (N : ℕ) (pb : ℕ → List (View.Piece Val s e)) (tr : Fin N → List (View.Piece Val s e))
    (h0 : pb 0 = []) (hs : ∀ k : Fin N, pb (k.val + 1) = tr k ++ pb k.val)
    (hG : ∀ k, ∀ p ∈ tr k, ∀ x : p.1.shape.Idx, p.2 x = G (p.1.emb x))
    (hc : ∀ y, ∃ k, ∃ p ∈ tr k, y ∈ p.1.set) : v.read Val (v.writes Val f (pb N)) = G := by
  have hmem : ∀ n, n ≤ N → ∀ p, p ∈ pb n ↔ ∃ k : Fin N, k.val < n ∧ p ∈ tr k := by
    intro n
    induction n with
    | zero => intro _ p; rw [h0]; simp
    | succ n ih =>
      intro hn p
      rw [hs ⟨n, hn⟩, List.mem_append, ih (by omega)]
      constructor
      · rintro (h | ⟨k, hk, h⟩)
        · exact ⟨⟨n, hn⟩, by simp, h⟩
        · exact ⟨k, by omega, h⟩
      · rintro ⟨k, hk, h⟩
        by_cases hkn : k.val = n
        · left; have : k = ⟨n, hn⟩ := Fin.ext hkn
          rwa [this] at h
        · right; exact ⟨k, by omega, h⟩
  funext y
  refine View.read_writes_apply_of_pieces v f G _ ?_ y ?_
  · intro p hp
    obtain ⟨k, -, h⟩ := (hmem N le_rfl p).1 hp
    exact hG k p h
  · obtain ⟨k, p, hp, hy⟩ := hc y
    exact ⟨p, (hmem N le_rfl p).2 ⟨k, k.isLt, hp⟩, hy⟩

theorem forall4 {P : Fin 4 → Prop} : (∀ t, P t) ↔ P 0 ∧ P 1 ∧ P 2 ∧ P 3 :=
  ⟨fun h => ⟨h 0, h 1, h 2, h 3⟩, fun ⟨h0, h1, h2, h3⟩ t => by fin_cases t <;> assumption⟩

/-- The absolute value, as the two programs compute it. -/
def ab (x : EReal) : EReal := max x (-x)

theorem absf_eq {φ : FTy} (x : EReal) : FloatOps.absf (F := Ideal) (φ := φ) x = ab x := rfl

theorem trips2 : k0_t2_loop.trips = 64 := by decide +kernel

theorem off3 (k : Fin k0_t2_loop.trips) (t : Fin 4) : k0_off3 k (BitVec.ofNat 32 t.val) = ![4 * k.val + t.val, 0, 0, 0] := by
  revert t k; decide +kernel
theorem off4 (k : Fin k0_t2_loop.trips) (t : Fin 4) : k0_off4 k (BitVec.ofNat 32 t.val) = ![4 * k.val + t.val, 0, 2, 0] := by
  revert t k; decide +kernel
theorem off5 (k : Fin k0_t2_loop.trips) (t : Fin 4) : k0_off5 k (BitVec.ofNat 32 t.val) = ![4 * k.val + t.val, 0, 4, 0] := by
  revert t k; decide +kernel
theorem off6 (k : Fin k0_t2_loop.trips) (t : Fin 4) : k0_off6 k (BitVec.ofNat 32 t.val) = ![4 * k.val + t.val, 0, 6, 0] := by
  revert t k; decide +kernel

/-- A block of row pairs loaded at a tile and a first row reads the tile at the pair's two rows. -/
theorem ld_tile (x : S256x8x8x128.Idx → EReal) {off : Fin 4 → Nat} {k : ℕ} (hk : k < 64) (t r : Fin 4) (ho : off = ![4 * k + t.val, 0, 2 * r.val, 0])
    (inb : ∀ a, off a + ![1, 8, 2, 128] a ≤ S256x8x8x128.size a) (h : Fin 8) (q : Fin 2) (l : Fin 128) :
    x ((Rect.unit (s := S256x8x8x128) off ![1, 8, 2, 128] inb).toLoadRect.idx (ix4 0 h q l))
      = x (ix4 ⟨4 * k + t.val, by omega⟩ h ⟨2 * r.val + q.val, by omega⟩ l) := by
  subst ho
  pointwise

theorem t2_step (X : BufTy.Contents (Elt Ideal) arg3.view.ty) (x : S256x8x8x128.Idx → EReal) (hx : arg3.view.read (Elt Ideal) X = x)
    (k : Fin k0_t2_loop.trips) (hk : k.val < 64) (acc : FVec Ideal S16x128 .bf16 × FVec Ideal S16x128 .bf16) (h : Fin 8) (l : Fin 128) (q : Fin 2) (b : EReal) (a : Fin 16) (ha : a.val = 2 * h.val + q.val) :
    (max ((tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X k acc).1 (ix2 a l)) ((tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X k acc).2 (ix2 a l)) ≤ b) ↔
      (max (acc.1 (ix2 a l)) (acc.2 (ix2 a l)) ≤ b ∧ ∀ t r : Fin 4, ab (x (ix4 ⟨4 * k.val + t.val, by omega⟩ h ⟨2 * r.val + q.val, by omega⟩ l)) ≤ b) := by
  have e2 : ∀ hh, (⟨a.val / 2, hh⟩ : Fin 8) = h := fun hh => Fin.ext (by show a.val / 2 = h.val; omega)
  have e1 : a.val % 2 = q.val := by omega
  unfold tripR_k0_t2 trip_k0_t2
  dsimp only
  sl_unfold_run_names
  unfold_payloads
  pointwise
  simp only [View.readAt_apply, hx, e1, e2, absf_eq, forall4, max_le_iff]
  obtain rfl | rfl : q = 0 ∨ q = 1 := by omega
  all_goals
    simp only [Fin.val_zero, Fin.val_one, one_ne_zero, if_true, if_false, reduceIte,
    ld_tile (off := k0_off3 k 0#32) x hk 0 0 (off3 k 0),
    ld_tile (off := k0_off4 k 0#32) x hk 0 1 (off4 k 0),
    ld_tile (off := k0_off5 k 0#32) x hk 0 2 (off5 k 0),
    ld_tile (off := k0_off6 k 0#32) x hk 0 3 (off6 k 0),
    ld_tile (off := k0_off3 k 1#32) x hk 1 0 (off3 k 1),
    ld_tile (off := k0_off4 k 1#32) x hk 1 1 (off4 k 1),
    ld_tile (off := k0_off5 k 1#32) x hk 1 2 (off5 k 1),
    ld_tile (off := k0_off6 k 1#32) x hk 1 3 (off6 k 1),
    ld_tile (off := k0_off3 k 2#32) x hk 2 0 (off3 k 2),
    ld_tile (off := k0_off4 k 2#32) x hk 2 1 (off4 k 2),
    ld_tile (off := k0_off5 k 2#32) x hk 2 2 (off5 k 2),
    ld_tile (off := k0_off6 k 2#32) x hk 2 3 (off6 k 2),
    ld_tile (off := k0_off3 k 3#32) x hk 3 0 (off3 k 3),
    ld_tile (off := k0_off4 k 3#32) x hk 3 1 (off4 k 3),
    ld_tile (off := k0_off5 k 3#32) x hk 3 2 (off5 k 3),
    ld_tile (off := k0_off6 k 3#32) x hk 3 3 (off6 k 3)]
    constructor
    · rintro ⟨⟨⟨⟨⟨⟨⟨⟨⟨h1, a00⟩, a01⟩, a02⟩, a03⟩, a20⟩, a21⟩, a22⟩, a23⟩, ⟨⟨⟨⟨⟨⟨⟨⟨h2, a10⟩, a11⟩, a12⟩, a13⟩, a30⟩, a31⟩, a32⟩, a33⟩⟩
      exact ⟨⟨h1, h2⟩, ⟨a00, a01, a02, a03⟩, ⟨a10, a11, a12, a13⟩, ⟨a20, a21, a22, a23⟩, ⟨a30, a31, a32, a33⟩⟩
    · rintro ⟨⟨h1, h2⟩, ⟨a00, a01, a02, a03⟩, ⟨a10, a11, a12, a13⟩, ⟨a20, a21, a22, a23⟩, ⟨a30, a31, a32, a33⟩⟩
      exact ⟨⟨⟨⟨⟨⟨⟨⟨⟨h1, a00⟩, a01⟩, a02⟩, a03⟩, a20⟩, a21⟩, a22⟩, a23⟩, ⟨⟨⟨⟨⟨⟨⟨⟨h2, a10⟩, a11⟩, a12⟩, a13⟩, a30⟩, a31⟩, a32⟩, a33⟩⟩

/-- An element of a block of rows, by position, head and lane. -/
def at3 (x : S256x8x8x128.Idx → EReal) (p : Fin 2048) (h : Fin 8) (l : Fin 128) : EReal :=
  x (ix4 ⟨p.val / 8, by omega⟩ h ⟨p.val % 8, by omega⟩ l)

theorem off7 (k : Fin k0_t3_loop.trips) (t : Fin 4) : k0_off7 k (BitVec.ofNat 32 t.val) = ![4 * k.val + t.val, 0, 0, 0] := by
  revert t k; decide +kernel
theorem off8 (k : Fin k0_t3_loop.trips) (t : Fin 4) : k0_off8 k (BitVec.ofNat 32 t.val) = ![4 * k.val + t.val, 0, 2, 0] := by
  revert t k; decide +kernel
theorem off9 (k : Fin k0_t3_loop.trips) (t : Fin 4) : k0_off9 k (BitVec.ofNat 32 t.val) = ![4 * k.val + t.val, 0, 4, 0] := by
  revert t k; decide +kernel
theorem off10 (k : Fin k0_t3_loop.trips) (t : Fin 4) : k0_off10 k (BitVec.ofNat 32 t.val) = ![4 * k.val + t.val, 0, 6, 0] := by
  revert t k; decide +kernel
theorem off11 (k : Fin k0_t3_loop.trips) (t : Fin 4) : k0_off11 k (BitVec.ofNat 32 t.val) = ![0, 32 * k.val + 8 * t.val, 0, 0] := by
  revert t k; decide +kernel

/-- The clamp to the format's range. -/
def clampE (x : EReal) : EReal := min (Ideal.ofBits .f32 0x43E00000#32) (max (Ideal.ofBits .f32 0xC3E00000#32) x)

/-- The codes of a block: every element times its head's inverse scale, clamped. -/
def codes (y : Fin 2048 → Fin 8 → Fin 128 → EReal) (iv : Fin 8 → EReal) : S1x2048x8x128.Idx → EReal :=
  fun j => clampE (y (j 1) (j 2) (j 3) * iv (j 2))

theorem at3_eq (x : S256x8x8x128.Idx → EReal) (p : Fin 2048) (h : Fin 8) (l : Fin 128) (T : Fin 256) (q : Fin 8) (hT : 8 * T.val + q.val = p.val) :
    x (ix4 T h q l) = at3 x p h l := by
  have e1 : T = ⟨p.val / 8, by omega⟩ := Fin.ext (by show T.val = p.val / 8; omega)
  have e2 : q = ⟨p.val % 8, by omega⟩ := Fin.ext (by show q.val = p.val % 8; omega)
  rw [at3, ← e1, ← e2]

theorem codes_ix4 (y : Fin 2048 → Fin 8 → Fin 128 → EReal) (iv : Fin 8 → EReal) (a : Fin 1) (p : Fin 2048) (h : Fin 8) (l : Fin 128) :
    codes y iv (ix4 a p h l) = clampE (y p h l * iv h) := rfl

theorem emb11 {off : Fin 4 → Nat} {k : ℕ} (hk : k < 64) (t : Fin 4) (ho : off = ![0, 32 * k + 8 * t.val, 0, 0])
    (inb : ∀ a, off a + ![1, 8, 8, 128] a ≤ S1x2048x8x128.size a) (a : Fin 1) (r : Fin 8) (h : Fin 8) (l : Fin 128) :
    (Rect.unit (s := S1x2048x8x128) off ![1, 8, 8, 128] inb).emb (ix4 a r h l) = ix4 0 ⟨32 * k + 8 * t.val + r.val, by omega⟩ h l := by
  subst ho
  funext b
  apply Fin.ext
  rw [Rect.emb_apply]
  fin_cases b <;> simp

theorem t3_pieces (v10 : IVec S8x128 32) (v28 : FVec Ideal S8x128 .f32) (v78 v80 v82 : IVec S8x128 32) (X : BufTy.Contents (Elt Ideal) arg3.view.ty)
    (x : S256x8x8x128.Idx → EReal) (hx : arg3.view.read (Elt Ideal) X = x) (iv : Fin 8 → EReal)
    (hiv : ∀ (a : Fin 16) (l : Fin 128), k0_pay435 (F := Ideal) v28 v78 v80 v82 (ix2 a l) = iv ⟨a.val / 2, by omega⟩)
    (k : Fin k0_t3_loop.trips) (hk : k.val < 64) :
    ∀ p ∈ tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X k, ∀ j : p.1.shape.Idx,
      p.2 j = codes (at3 x) iv (p.1.emb j) := by
  unfold tripL_k0_t3 trip_k0_t3
  dsimp only
  sl_unfold_run_names
  generalize k0_pay435 (F := Ideal) v28 v78 v80 v82 = w at *
  unfold_payloads
  simp only [List.forall_mem_cons]
  have ee : ∀ h : Fin 8, 2 * h.val % 2 = 0 := fun h => by omega
  have eo : ∀ h : Fin 8, (2 * h.val + 1) % 2 = 1 := fun h => by omega
  have e2 : ∀ (h : Fin 8) hh, (⟨2 * h.val / 2, hh⟩ : Fin 8) = h := fun h hh => Fin.ext (by show 2 * h.val / 2 = h.val; omega)
  have e3 : ∀ (h : Fin 8) hh, (⟨(2 * h.val + 1) / 2, hh⟩ : Fin 8) = h := fun h hh => Fin.ext (by show (2 * h.val + 1) / 2 = h.val; omega)
  refine ⟨?_, ?_, ?_, ?_, by simp⟩
  · intro j
    change (⟨4, ![1, 8, 8, 128]⟩ : Shape).Idx at j
    idx_vars j
    rw [emb11 (off := k0_off11 k 3#32) hk 3 (off11 k 3), codes_ix4]
    pointwise
    simp only [View.readAt_apply, hx, hiv, ofBits_max, ofBits_min, ee j2, eo j2, e2 j2, e3 j2, if_true, one_ne_zero, if_false,
      ld_tile (off := k0_off7 k 3#32) x hk 3 0 (off7 k 3),
      ld_tile (off := k0_off8 k 3#32) x hk 3 1 (off8 k 3),
      ld_tile (off := k0_off9 k 3#32) x hk 3 2 (off9 k 3),
      ld_tile (off := k0_off10 k 3#32) x hk 3 3 (off10 k 3)]
    fin_vals j1 with hj
    all_goals
      simp only [hj, Nat.reduceSub, Nat.reduceLT, ↓reduceDIte, if_true, if_false]
      exact congrArg (fun z => clampE (z * iv j2)) (at3_eq x _ j2 j3 _ _ (by simp only [hj]; simp; omega))
  · intro j
    change (⟨4, ![1, 8, 8, 128]⟩ : Shape).Idx at j
    idx_vars j
    rw [emb11 (off := k0_off11 k 2#32) hk 2 (off11 k 2), codes_ix4]
    pointwise
    simp only [View.readAt_apply, hx, hiv, ofBits_max, ofBits_min, ee j2, eo j2, e2 j2, e3 j2, if_true, one_ne_zero, if_false,
      ld_tile (off := k0_off7 k 2#32) x hk 2 0 (off7 k 2),
      ld_tile (off := k0_off8 k 2#32) x hk 2 1 (off8 k 2),
      ld_tile (off := k0_off9 k 2#32) x hk 2 2 (off9 k 2),
      ld_tile (off := k0_off10 k 2#32) x hk 2 3 (off10 k 2)]
    fin_vals j1 with hj
    all_goals
      simp only [hj, Nat.reduceSub, Nat.reduceLT, ↓reduceDIte, if_true, if_false]
      exact congrArg (fun z => clampE (z * iv j2)) (at3_eq x _ j2 j3 _ _ (by simp only [hj]; simp; omega))
  · intro j
    change (⟨4, ![1, 8, 8, 128]⟩ : Shape).Idx at j
    idx_vars j
    rw [emb11 (off := k0_off11 k 1#32) hk 1 (off11 k 1), codes_ix4]
    pointwise
    simp only [View.readAt_apply, hx, hiv, ofBits_max, ofBits_min, ee j2, eo j2, e2 j2, e3 j2, if_true, one_ne_zero, if_false,
      ld_tile (off := k0_off7 k 1#32) x hk 1 0 (off7 k 1),
      ld_tile (off := k0_off8 k 1#32) x hk 1 1 (off8 k 1),
      ld_tile (off := k0_off9 k 1#32) x hk 1 2 (off9 k 1),
      ld_tile (off := k0_off10 k 1#32) x hk 1 3 (off10 k 1)]
    fin_vals j1 with hj
    all_goals
      simp only [hj, Nat.reduceSub, Nat.reduceLT, ↓reduceDIte, if_true, if_false]
      exact congrArg (fun z => clampE (z * iv j2)) (at3_eq x _ j2 j3 _ _ (by simp only [hj]; simp; omega))
  · intro j
    change (⟨4, ![1, 8, 8, 128]⟩ : Shape).Idx at j
    idx_vars j
    rw [emb11 (off := k0_off11 k 0#32) hk 0 (off11 k 0), codes_ix4]
    pointwise
    simp only [View.readAt_apply, hx, hiv, ofBits_max, ofBits_min, ee j2, eo j2, e2 j2, e3 j2, if_true, one_ne_zero, if_false,
      ld_tile (off := k0_off7 k 0#32) x hk 0 0 (off7 k 0),
      ld_tile (off := k0_off8 k 0#32) x hk 0 1 (off8 k 0),
      ld_tile (off := k0_off9 k 0#32) x hk 0 2 (off9 k 0),
      ld_tile (off := k0_off10 k 0#32) x hk 0 3 (off10 k 0)]
    fin_vals j1 with hj
    all_goals
      simp only [hj, Nat.reduceSub, Nat.reduceLT, ↓reduceDIte, if_true, if_false]
      exact congrArg (fun z => clampE (z * iv j2)) (at3_eq x _ j2 j3 _ _ (by simp only [hj]; simp; omega))

theorem trips3 : k0_t3_loop.trips = 64 := by decide +kernel

/-- After the second loop over the rows the buffer holds the codes. -/
theorem t3_read (v10 : IVec S8x128 32) (v28 : FVec Ideal S8x128 .f32) (v78 v80 v82 : IVec S8x128 32) (X : BufTy.Contents (Elt Ideal) arg3.view.ty)
    (x : S256x8x8x128.Idx → EReal) (hx : arg3.view.read (Elt Ideal) X = x) (iv : Fin 8 → EReal)
    (hiv : ∀ (a : Fin 16) (l : Fin 128), k0_pay435 (F := Ideal) v28 v78 v80 v82 (ix2 a l) = iv ⟨a.val / 2, by omega⟩)
    (f : BufTy.Contents (Elt Ideal) arg5.view.ty) :
    arg5.view.read (Elt Ideal) (arg5.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X k0_t3_loop.trips)) = codes (at3 x) iv := by
  refine read_loop arg5.view f _ k0_t3_loop.trips _ (fun k => tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X k) rfl
    (fun k => pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X k) ?_ ?_
  · intro k
    exact t3_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X x hx iv hiv k (trips3 ▸ k.isLt)
  · intro y
    have hy : (y 1).val < 2048 := (y 1).isLt
    have hy0 : (y 0).val < 1 := (y 0).isLt
    have hy2 : (y 2).val < 8 := (y 2).isLt
    have hy3 : (y 3).val < 128 := (y 3).isLt
    refine ⟨⟨(y 1).val / 32, by rw [trips3]; omega⟩, ?_⟩
    unfold tripL_k0_t3 trip_k0_t3
    dsimp only
    simp only [List.exists_mem_cons_iff]
    have hcov : ∀ t : Fin 4, (y 1).val % 32 / 8 = t.val → ∀ off inb, off = ![0, 32 * ((y 1).val / 32) + 8 * t.val, 0, 0] →
        y ∈ (Rect.unit (s := S1x2048x8x128) off ![1, 8, 8, 128] inb).set := by
      intro t ht off inb ho
      subst ho
      rw [Rect.mem_set_unit]
      intro a
      fin_cases a <;> simp <;> omega
    have h4 : (y 1).val % 32 / 8 = 0 ∨ (y 1).val % 32 / 8 = 1 ∨ (y 1).val % 32 / 8 = 2 ∨ (y 1).val % 32 / 8 = 3 := by omega
    rcases h4 with h | h | h | h
    · right; right; right; left; exact hcov 0 h _ _ (off11 _ 0)
    · right; right; left; exact hcov 1 h _ _ (off11 _ 1)
    · right; left; exact hcov 2 h _ _ (off11 _ 2)
    · left; exact hcov 3 h _ _ (off11 _ 3)

/-- The carried maxima after `n` trips. -/
theorem t2_upto (X : BufTy.Contents (Elt Ideal) arg3.view.ty) (x : S256x8x8x128.Idx → EReal) (hx : arg3.view.read (Elt Ideal) X = x)
    (init : FVec Ideal S16x128 .bf16 × FVec Ideal S16x128 .bf16) (h : Fin 8) (l : Fin 128) (q : Fin 2) (b : EReal) (a : Fin 16) (ha : a.val = 2 * h.val + q.val) (n : ℕ) (hn : n ≤ 64) :
    (max ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X init n).1 (ix2 a l)) ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X init n).2 (ix2 a l)) ≤ b) ↔
      (max (init.1 (ix2 a l)) (init.2 (ix2 a l)) ≤ b ∧ ∀ (k : Fin 64) (_ : k.val < n) (t r : Fin 4), ab (x (ix4 ⟨4 * k.val + t.val, by omega⟩ h ⟨2 * r.val + q.val, by omega⟩ l)) ≤ b) := by
  induction n with
  | zero =>
    show max (init.1 (ix2 a l)) (init.2 (ix2 a l)) ≤ b ↔ _
    simp
  | succ n ih =>
    have hnt : n < k0_t2_loop.trips := by rw [trips2]; omega
    rw [show n + 1 = (⟨n, hnt⟩ : Fin k0_t2_loop.trips).val + 1 from rfl, st_k0_t2_succ,
      t2_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X x hx ⟨n, hnt⟩ (by show n < 64; omega) _ h l q b a ha, ih (by omega), and_assoc]
    refine and_congr_right fun _ => ⟨?_, ?_⟩
    · rintro ⟨h1, h2⟩ k hk t r
      by_cases hkn : k.val = n
      · have := h2 t r
        simp only [hkn]; exact this
      · have hk' : k.val < n + 1 := hk
        exact h1 k (by show k.val < n; omega) t r
    · intro h1
      exact ⟨fun k hk => h1 k (Nat.lt_succ_of_lt hk), fun t r => h1 ⟨n, by omega⟩ (by simp) t r⟩

/-- The carried maxima after the loop bound exactly the elements of their head, position parity and lane. -/
theorem t2_read (X : BufTy.Contents (Elt Ideal) arg3.view.ty) (x : S256x8x8x128.Idx → EReal) (hx : arg3.view.read (Elt Ideal) X = x)
    (init : FVec Ideal S16x128 .bf16 × FVec Ideal S16x128 .bf16) (h : Fin 8) (l : Fin 128) (q : Fin 2) (b : EReal) (a : Fin 16) (ha : a.val = 2 * h.val + q.val) :
    (max ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X init k0_t2_loop.trips).1 (ix2 a l)) ((st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X init k0_t2_loop.trips).2 (ix2 a l)) ≤ b) ↔
      (max (init.1 (ix2 a l)) (init.2 (ix2 a l)) ≤ b ∧ ∀ p : Fin 2048, p.val % 2 = q.val → ab (at3 x p h l) ≤ b) := by
  rw [t2_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X x hx init h l q b a ha _ (le_of_eq trips2)]
  refine and_congr_right fun _ => ⟨?_, ?_⟩
  · intro h1 p hp
    have := h1 ⟨p.val / 32, by omega⟩ (by rw [trips2]; show p.val / 32 < 64; omega) ⟨p.val / 8 % 4, by omega⟩ ⟨p.val % 8 / 2, by omega⟩
    rwa [at3_eq x p h l _ _ (by simp only []; omega)] at this
  · intro h1 k hk t r
    rw [at3_eq x ⟨32 * k.val + 8 * t.val + 2 * r.val + q.val, by omega⟩ h l _ _ (by simp only []; omega)]
    exact h1 _ (by simp only []; omega)

end
end Cert.Rope
end
-- ==== Proof.Field.lean ====
/-
  The scale searches, element by element.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import proofs.«01_k».proof.Proof.VLoops

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

/-- One step of the search on whole vectors. -/
def stepV (m : FVec Ideal S8x128 .f32) (b : BitVec 32) (f : IVec S8x128 32) : IVec S8x128 32 :=
  select (cmpf .oge m (bitcastToFloat (F := Ideal) .f32 (shli (addi f (broadcast S8x128 b)) (broadcast S8x128 23#32)))) (addi f (broadcast S8x128 b)) f

theorem stepV_fold (m : FVec Ideal S8x128 .f32) (b : BitVec 32) (f : IVec S8x128 32) :
    select (cmpf .oge m (bitcastToFloat (F := Ideal) .f32 (shli (addi f (broadcast S8x128 b)) (broadcast S8x128 23#32)))) (addi f (broadcast S8x128 b)) f = stepV m b f := rfl

theorem stepV_apply (m : FVec Ideal S8x128 .f32) (b : BitVec 32) (f : IVec S8x128 32) (j : S8x128.Idx) : stepV m b f j = step (m j) b (f j) := rfl

def fieldV (m : FVec Ideal S8x128 .f32) : IVec S8x128 32 :=
  stepV m 1#32 (stepV m 2#32 (stepV m 4#32 (stepV m 8#32 (stepV m 16#32 (stepV m 32#32 (stepV m 64#32 (stepV m 128#32 (broadcast S8x128 0#32))))))))

theorem fieldV_apply (m : FVec Ideal S8x128 .f32) (j : S8x128.Idx) : fieldV m j = field (m j) := by
  unfold fieldV field
  simp only [stepV_apply]
  rfl

theorem expoV_apply (m : FVec Ideal S8x128 .f32) (j : S8x128.Idx) :
    select (ori (cmpi .eq (fieldV m) (broadcast S8x128 0#32)) (cmpi .eq (fieldV m) (broadcast S8x128 255#32))) (broadcast S8x128 0#32) (subi (fieldV m) (broadcast S8x128 126#32)) j
      = expo (m j) := by
  have := fieldV_apply m j
  generalize fieldV m = f at *
  show Scalar.select (IntOp.ori (IntOp.cmpi .eq (f j) 0#32) (IntOp.cmpi .eq (f j) 255#32)) 0#32 (IntOp.subi (f j) 126#32) = _
  rw [this, expo]

/-- The exponent the kernel finds for the second operand, element by element. -/
theorem vExpo_apply (a0 a1 : FVec Ideal S16x128 .bf16) (j : S8x128.Idx) :
    k0_pay433 (F := Ideal) (k0_pay428 a0 a1) (k0_pay430 (k0_pay428 a0 a1) (k0_pay429 a0 a1)) (k0_pay431 (k0_pay428 a0 a1) (k0_pay429 a0 a1))
      (k0_pay432 (k0_pay428 a0 a1) (k0_pay429 a0 a1)) j = expo (k0_pay428 a0 a1 j) := by
  unfold k0_pay429
  generalize k0_pay428 (F := Ideal) a0 a1 = m
  unfold k0_pay433 k0_pay432 k0_pay431 k0_pay430
  dsimp only
  rw [stepV_fold m 128#32, stepV_fold m 64#32, stepV_fold m 32#32, stepV_fold m 16#32, stepV_fold m 8#32, stepV_fold m 4#32, stepV_fold m 2#32, stepV_fold m 1#32]
  exact expoV_apply m j

/-- The exponent the kernel finds for the first operand, element by element. -/
theorem kExpo_apply (a : FVec Ideal S8x128 .f32) (j : S8x128.Idx) :
    k0_pay443 (F := Ideal) (k0_pay441 a) (k0_pay442 a) 2#32 j = expo (k0_pay441 a j) := by
  unfold k0_pay442
  generalize k0_pay441 (F := Ideal) a = m
  unfold k0_pay443
  dsimp only
  rw [stepV_fold m 128#32, stepV_fold m 64#32, stepV_fold m 32#32, stepV_fold m 16#32, stepV_fold m 8#32, stepV_fold m 4#32, stepV_fold m 2#32, stepV_fold m 1#32]
  exact expoV_apply m j

theorem vScale_apply (a0 a1 : FVec Ideal S16x128 .bf16) (b : Fin 1) (h : Fin 8) (l : Fin 128) :
    k0_pay434 (F := Ideal) (k0_pay428 a0 a1) (k0_pay430 (k0_pay428 a0 a1) (k0_pay429 a0 a1)) (k0_pay431 (k0_pay428 a0 a1) (k0_pay429 a0 a1))
      (k0_pay432 (k0_pay428 a0 a1) (k0_pay429 a0 a1)) (ix3 b h l) = kScale (k0_pay428 a0 a1 (ix2 h l)) := by
  unfold k0_pay434
  have := vExpo_apply a0 a1 (ix2 h l)
  generalize k0_pay433 (F := Ideal) _ _ _ _ = e at *
  pointwise
  rw [this]
  rfl

theorem vInv_apply (a0 a1 : FVec Ideal S16x128 .bf16) (a : Fin 16) (l : Fin 128) :
    k0_pay435 (F := Ideal) (k0_pay428 a0 a1) (k0_pay430 (k0_pay428 a0 a1) (k0_pay429 a0 a1)) (k0_pay431 (k0_pay428 a0 a1) (k0_pay429 a0 a1))
      (k0_pay432 (k0_pay428 a0 a1) (k0_pay429 a0 a1)) (ix2 a l) = kInv (k0_pay428 a0 a1 (ix2 ⟨a.val / 2, by omega⟩ l)) := by
  unfold k0_pay435
  have := vExpo_apply a0 a1 (ix2 ⟨a.val / 2, by omega⟩ l)
  generalize k0_pay433 (F := Ideal) _ _ _ _ = e at *
  pointwise
  rw [ite_self, this]
  rfl

theorem kScale_apply (a : FVec Ideal S8x128 .f32) (b : Fin 1) (h : Fin 8) (l : Fin 128) :
    k0_pay444 (F := Ideal) (k0_pay441 a) (k0_pay442 a) 2#32 (ix3 b h l) = kScale (k0_pay441 a (ix2 h l)) := by
  unfold k0_pay444
  have := kExpo_apply a (ix2 h l)
  generalize k0_pay443 (F := Ideal) _ _ _ = e at *
  pointwise
  rw [this]
  rfl

theorem kCodes_apply (a : FVec Ideal S8x128 .f32) (y : Vec Ideal S32x8x128 .f32) (b : Fin 1) (r : Fin 32) (h : Fin 8) (l : Fin 128) :
    k0_pay445 (F := Ideal) (k0_pay441 a) (k0_pay442 a) 2#32 y (ix4 b r h l) = clampE (y (ix3 r h l) * kInv (k0_pay441 a (ix2 h l))) := by
  unfold k0_pay445
  have := kExpo_apply a (ix2 h l)
  generalize k0_pay443 (F := Ideal) _ _ _ = e at *
  pointwise
  rw [this]
  rfl

theorem ofBits_bot : Ideal.ofBits .f32 0xFF800000#32 = ⊥ := by
  simp [Ideal.ofBits, Ideal.ieee]

/-- The number whose power of two is taken: a head's largest absolute value times 1/448. -/
def mOf (a : EReal) : EReal := a * Ideal.ofBits .f32 0x3B124925#32

theorem vM_apply (a0 a1 : FVec Ideal S16x128 .bf16) (h : Fin 8) (l : Fin 128) :
    k0_pay428 (F := Ideal) a0 a1 (ix2 h l) = mOf (Finset.univ.sup fun l' : Fin 128 => max (max (a0 (ix2 ⟨2 * h.val, by omega⟩ l')) (a1 (ix2 ⟨2 * h.val, by omega⟩ l')))
      (max (a0 (ix2 ⟨2 * h.val + 1, by omega⟩ l')) (a1 (ix2 ⟨2 * h.val + 1, by omega⟩ l')))) := by
  unfold k0_pay428
  pointwise
  rw [ofBits_bot]
  rfl

theorem kM_apply (a0 a1 : FVec Ideal S8x128 .f32) (h : Fin 8) (l : Fin 128) :
    k0_pay441 (F := Ideal) (k0_pay440 a0 a1) (ix2 h l) = mOf (Finset.univ.sup fun l' : Fin 128 => max (a0 (ix2 h l')) (a1 (ix2 h l'))) := by
  unfold k0_pay441 k0_pay440
  pointwise
  rw [ofBits_bot]
  rfl

end
end Cert.Rope
end
-- ==== Proof.KLoops.lean ====
/-
  The loop over the first operand: the rotation with the maximum of its absolute values.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import proofs.«01_k».proof.Proof.VLoops

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

theorem off13 (k : Fin k0_t4_loop.trips) (t : Fin 4) (r : Fin 8) : k0_off13 k (BitVec.ofNat 32 t.val) (BitVec.ofNat 32 r.val) = ![32 * k.val + 8 * t.val + r.val, 0] := by
  revert r t k; decide +kernel
theorem off14 (k : Fin k0_t4_loop.trips) (t : Fin 4) (r : Fin 8) : k0_off14 k (BitVec.ofNat 32 t.val) (BitVec.ofNat 32 r.val) = ![32 * k.val + 8 * t.val + r.val, 0, 0] := by
  revert r t k; decide +kernel
theorem off12 (k : Fin k0_t4_loop.trips) (t : Fin 4) : k0_off12 k (BitVec.ofNat 32 t.val) = ![4 * k.val + t.val, 0, 0, 0] := by
  revert t k; decide +kernel
theorem off15 (k : Fin k0_t4_loop.trips) (t : Fin 4) : k0_off15 k (BitVec.ofNat 32 t.val) = ![4 * k.val + t.val, 0, 2, 0] := by
  revert t k; decide +kernel
theorem off16 (k : Fin k0_t4_loop.trips) (t : Fin 4) : k0_off16 k (BitVec.ofNat 32 t.val) = ![4 * k.val + t.val, 0, 4, 0] := by
  revert t k; decide +kernel
theorem off17 (k : Fin k0_t4_loop.trips) (t : Fin 4) : k0_off17 k (BitVec.ofNat 32 t.val) = ![4 * k.val + t.val, 0, 6, 0] := by
  revert t k; decide +kernel

/-- The other lane of a lane's pair. -/
def swapLane (l : Fin 128) : Fin 128 := ⟨if l.val % 2 = 0 then l.val + 1 else l.val - 1, by split <;> omega⟩

/-- A block rotated by a table of cosines and a table of signed sines, by position, head and lane. -/
def rot (x : S256x8x8x128.Idx → EReal) (tc ts : S2048x128.Idx → EReal) (p : Fin 2048) (h : Fin 8) (l : Fin 128) : EReal :=
  at3 x p h l * tc (ix2 p l) + at3 x p h (swapLane l) * ts (ix2 p l)

def rotE (x : S256x8x8x128.Idx → EReal) (tc ts : S2048x128.Idx → EReal) : S2048x8x128.Idx → EReal := fun j => rot x tc ts (j 0) (j 1) (j 2)

theorem ld_row (x : S2048x128.Idx → EReal) {off : Fin 2 → Nat} {k : ℕ} (hk : k < 64) (t : Fin 4) (r : Fin 8) (ho : off = ![32 * k + 8 * t.val + r.val, 0])
    (inb : ∀ a, off a + ![1, 128] a ≤ S2048x128.size a) (l : Fin 128) :
    x ((Rect.unit (s := S2048x128) off ![1, 128] inb).toLoadRect.idx (ix2 0 l)) = x (ix2 ⟨32 * k + 8 * t.val + r.val, by omega⟩ l) := by
  subst ho
  pointwise

theorem emb14 {off : Fin 3 → Nat} {k : ℕ} (hk : k < 64) (t : Fin 4) (r : Fin 8) (ho : off = ![32 * k + 8 * t.val + r.val, 0, 0])
    (inb : ∀ a, off a + ![1, 8, 128] a ≤ S2048x8x128.size a) (a : Fin 1) (h : Fin 8) (l : Fin 128) :
    (Rect.unit (s := S2048x8x128) off ![1, 8, 128] inb).emb (ix3 a h l) = ix3 ⟨32 * k + 8 * t.val + r.val, by omega⟩ h l := by
  subst ho
  funext b
  apply Fin.ext
  rw [Rect.emb_apply]
  fin_cases b <;> simp

theorem gat (l : Fin 128) (hh) : (⟨(Scalar.select (IntOp.cmpi CmpIPredicate.slt (BitVec.ofNat 32 (swapLane l).val) 0#32)
    (IntOp.addi (BitVec.ofNat 32 (swapLane l).val) 128#32) (BitVec.ofNat 32 (swapLane l).val)).toNat % 128, hh⟩ : Fin 128) = swapLane l := by
  apply Fin.ext
  show (Scalar.select (IntOp.cmpi CmpIPredicate.slt (BitVec.ofNat 32 (swapLane l).val) 0#32)
    (IntOp.addi (BitVec.ofNat 32 (swapLane l).val) 128#32) (BitVec.ofNat 32 (swapLane l).val)).toNat % 128 = (swapLane l).val
  clear hh
  revert l
  decide +kernel

theorem rotAt (x : S256x8x8x128.Idx → EReal) (tc ts : S2048x128.Idx → EReal) {off : Fin 4 → Nat} {off' : Fin 2 → Nat} {k : ℕ} (hk : k < 64)
    (t r : Fin 4) (q : Fin 2) (p : Fin 8) (hp : p.val = 2 * r.val + q.val) (ho : off = ![4 * k + t.val, 0, 2 * r.val, 0]) (ho' : off' = ![32 * k + 8 * t.val + p.val, 0])
    (inb : ∀ a, off a + ![1, 8, 2, 128] a ≤ S256x8x8x128.size a) (inb' : ∀ a, off' a + ![1, 128] a ≤ S2048x128.size a) (h : Fin 8) (l : Fin 128) :
    x ((Rect.unit (s := S256x8x8x128) off ![1, 8, 2, 128] inb).toLoadRect.idx (ix4 0 h q l)) * tc ((Rect.unit (s := S2048x128) off' ![1, 128] inb').toLoadRect.idx (ix2 0 l))
      + x ((Rect.unit (s := S256x8x8x128) off ![1, 8, 2, 128] inb).toLoadRect.idx (ix4 0 h q (swapLane l))) * ts ((Rect.unit (s := S2048x128) off' ![1, 128] inb').toLoadRect.idx (ix2 0 l))
      = rot x tc ts ⟨32 * k + 8 * t.val + p.val, by omega⟩ h l := by
  rw [ld_tile x hk t r ho, ld_tile x hk t r ho, ld_row tc hk t p ho', ld_row ts hk t p ho', rot]
  rw [at3_eq x ⟨32 * k + 8 * t.val + p.val, by omega⟩ h l _ _ (by simp only []; omega), at3_eq x ⟨32 * k + 8 * t.val + p.val, by omega⟩ h (swapLane l) _ _ (by simp only []; omega)]

theorem rotE_ix3 (x : S256x8x8x128.Idx → EReal) (tc ts : S2048x128.Idx → EReal) (p : Fin 2048) (h : Fin 8) (l : Fin 128) :
    rotE x tc ts (ix3 p h l) = rot x tc ts p h l := rfl

theorem t4_pieces (v10 : IVec S8x128 32) (v28 : FVec Ideal S8x128 .f32) (v78 v80 v82 : IVec S8x128 32) (X : BufTy.Contents (Elt Ideal) arg2.view.ty)
    (XC : BufTy.Contents (Elt Ideal) arg14.view.ty) (XS : BufTy.Contents (Elt Ideal) arg15.view.ty)
    (x : S256x8x8x128.Idx → EReal) (hx : arg2.view.read (Elt Ideal) X = x)
    (tc ts : S2048x128.Idx → EReal) (hc : arg14.view.read (Elt Ideal) XC = tc) (hs : arg15.view.read (Elt Ideal) XS = ts)
    (hv10 : ∀ h l, v10 (ix2 h l) = BitVec.ofNat 32 (swapLane l).val) (acc : FVec Ideal S8x128 .f32 × FVec Ideal S8x128 .f32)
    (k : Fin k0_t4_loop.trips) (hk : k.val < 64) :
    ∀ p ∈ tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS k acc, ∀ j : p.1.shape.Idx,
      p.2 j = rotE x tc ts (p.1.emb j) := by
  unfold tripL_k0_t4 trip_k0_t4
  dsimp only
  sl_unfold_run_names
  unfold_payloads
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by simp⟩
  · intro j
    change (⟨3, ![1, 8, 128]⟩ : Shape).Idx at j
    idx_vars j
    rw [emb14 (off := k0_off14 k 3#32 7#32) hk 3 7 (off14 k 3 7), rotE_ix3]
    pointwise
    simp only [View.readAt_apply, hx, hc, hs, hv10, gat]
    exact rotAt x tc ts (off := k0_off17 k 3#32) (off' := k0_off13 k 3#32 7#32) hk 3 3 1 7 rfl (off17 k 3) (off13 k 3 7) _ _ j1 j2
  · intro j
    change (⟨3, ![1, 8, 128]⟩ : Shape).Idx at j
    idx_vars j
    rw [emb14 (off := k0_off14 k 3#32 6#32) hk 3 6 (off14 k 3 6), rotE_ix3]
    pointwise
    simp only [View.readAt_apply, hx, hc, hs, hv10, gat]
    exact rotAt x tc ts (off := k0_off17 k 3#32) (off' := k0_off13 k 3#32 6#32) hk 3 3 0 6 rfl (off17 k 3) (off13 k 3 6) _ _ j1 j2
  · intro j
    change (⟨3, ![1, 8, 128]⟩ : Shape).Idx at j
    idx_vars j
    rw [emb14 (off := k0_off14 k 3#32 5#32) hk 3 5 (off14 k 3 5), rotE_ix3]
    pointwise
    simp only [View.readAt_apply, hx, hc, hs, hv10, gat]
    exact rotAt x tc ts (off := k0_off16 k 3#32) (off' := k0_off13 k 3#32 5#32) hk 3 2 1 5 rfl (off16 k 3) (off13 k 3 5) _ _ j1 j2
  · intro j
    change (⟨3, ![1, 8, 128]⟩ : Shape).Idx at j
    idx_vars j
    rw [emb14 (off := k0_off14 k 3#32 4#32) hk 3 4 (off14 k 3 4), rotE_ix3]
    pointwise
    simp only [View.readAt_apply, hx, hc, hs, hv10, gat]
    exact rotAt x tc ts (off := k0_off16 k 3#32) (off' := k0_off13 k 3#32 4#32) hk 3 2 0 4 rfl (off16 k 3) (off13 k 3 4) _ _ j1 j2
  · intro j
    change (⟨3, ![1, 8, 128]⟩ : Shape).Idx at j
    idx_vars j
    rw [emb14 (off := k0_off14 k 3#32 3#32) hk 3 3 (off14 k 3 3), rotE_ix3]
    pointwise
    simp only [View.readAt_apply, hx, hc, hs, hv10, gat]
    exact rotAt x tc ts (off := k0_off15 k 3#32) (off' := k0_off13 k 3#32 3#32) hk 3 1 1 3 rfl (off15 k 3) (off13 k 3 3) _ _ j1 j2
  · intro j
    change (⟨3, ![1, 8, 128]⟩ : Shape).Idx at j
    idx_vars j
    rw [emb14 (off := k0_off14 k 3#32 2#32) hk 3 2 (off14 k 3 2), rotE_ix3]
    pointwise
    simp only [View.readAt_apply, hx, hc, hs, hv10, gat]
    exact rotAt x tc ts (off := k0_off15 k 3#32) (off' := k0_off13 k 3#32 2#32) hk 3 1 0 2 rfl (off15 k 3) (off13 k 3 2) _ _ j1 j2
  · intro j
    change (⟨3, ![1, 8, 128]⟩ : Shape).Idx at j
    idx_vars j
    rw [emb14 (off := k0_off14 k 3#32 1#32) hk 3 1 (off14 k 3 1), rotE_ix3]
    pointwise
    simp only [View.readAt_apply, hx, hc, hs, hv10, gat]
    exact rotAt x tc ts (off := k0_off12 k 3#32) (off' := k0_off13 k 3#32 1#32) hk 3 0 1 1 rfl (off12 k 3) (off13 k 3 1) _ _ j1 j2
  · intro j
    change (⟨3, ![1, 8, 128]⟩ : Shape).Idx at j
    idx_vars j
    rw [emb14 (off := k0_off14 k 3#32 0#32) hk 3 0 (off14 k 3 0), rotE_ix3]
    pointwise
    simp only [View.readAt_apply, hx, hc, hs, hv10, gat]
    exact rotAt x tc ts (off := k0_off12 k 3#32) (off' := k0_off13 k 3#32 0#32) hk 3 0 0 0 rfl (off12 k 3) (off13 k 3 0) _ _ j1 j2
  · intro j
    change (⟨3, ![1, 8, 128]⟩ : Shape).Idx at j
    idx_vars j
    rw [emb14 (off := k0_off14 k 2#32 7#32) hk 2 7 (off14 k 2 7), rotE_ix3]
    pointwise
    simp only [View.readAt_apply, hx, hc, hs, hv10, gat]
    exact rotAt x tc ts (off := k0_off17 k 2#32) (off' := k0_off13 k 2#32 7#32) hk 2 3 1 7 rfl (off17 k 2) (off13 k 2 7) _ _ j1 j2
  · intro j
    change (⟨3, ![1, 8, 128]⟩ : Shape).Idx at j
    idx_vars j
    rw [emb14 (off := k0_off14 k 2#32 6#32) hk 2 6 (off14 k 2 6), rotE_ix3]
    pointwise
    simp only [View.readAt_apply, hx, hc, hs, hv10, gat]
    exact rotAt x tc ts (off := k0_off17 k 2#32) (off' := k0_off13 k 2#32 6#32) hk 2 3 0 6 rfl (off17 k 2) (off13 k 2 6) _ _ j1 j2
  · intro j
    change (⟨3, ![1, 8, 128]⟩ : Shape).Idx at j
    idx_vars j
    rw [emb14 (off := k0_off14 k 2#32 5#32) hk 2 5 (off14 k 2 5), rotE_ix3]
    pointwise
    simp only [View.readAt_apply, hx, hc, hs, hv10, gat]
    exact rotAt x tc ts (off := k0_off16 k 2#32) (off' := k0_off13 k 2#32 5#32) hk 2 2 1 5 rfl (off16 k 2) (off13 k 2 5) _ _ j1 j2
  · intro j
    change (⟨3, ![1, 8, 128]⟩ : Shape).Idx at j
    idx_vars j
    rw [emb14 (off := k0_off14 k 2#32 4#32) hk 2 4 (off14 k 2 4), rotE_ix3]
    pointwise
    simp only [View.readAt_apply, hx, hc, hs, hv10, gat]
    exact rotAt x tc ts (off := k0_off16 k 2#32) (off' := k0_off13 k 2#32 4#32) hk 2 2 0 4 rfl (off16 k 2) (off13 k 2 4) _ _ j1 j2
  · intro j
    change (⟨3, ![1, 8, 128]⟩ : Shape).Idx at j
    idx_vars j
    rw [emb14 (off := k0_off14 k 2#32 3#32) hk 2 3 (off14 k 2 3), rotE_ix3]
    pointwise
    simp only [View.readAt_apply, hx, hc, hs, hv10, gat]
    exact rotAt x tc ts (off := k0_off15 k 2#32) (off' := k0_off13 k 2#32 3#32) hk 2 1 1 3 rfl (off15 k 2) (off13 k 2 3) _ _ j1 j2
  · intro j
    change (⟨3, ![1, 8, 128]⟩ : Shape).Idx at j
    idx_vars j
    rw [emb14 (off := k0_off14 k 2#32 2#32) hk 2 2 (off14 k 2 2), rotE_ix3]
    pointwise
    simp only [View.readAt_apply, hx, hc, hs, hv10, gat]
    exact rotAt x tc ts (off := k0_off15 k 2#32) (off' := k0_off13 k 2#32 2#32) hk 2 1 0 2 rfl (off15 k 2) (off13 k 2 2) _ _ j1 j2
  · intro j
    change (⟨3, ![1, 8, 128]⟩ : Shape).Idx at j
    idx_vars j
    rw [emb14 (off := k0_off14 k 2#32 1#32) hk 2 1 (off14 k 2 1), rotE_ix3]
    pointwise
    simp only [View.readAt_apply, hx, hc, hs, hv10, gat]
    exact rotAt x tc ts (off := k0_off12 k 2#32) (off' := k0_off13 k 2#32 1#32) hk 2 0 1 1 rfl (off12 k 2) (off13 k 2 1) _ _ j1 j2
  · intro j
    change (⟨3, ![1, 8, 128]⟩ : Shape).Idx at j
    idx_vars j
    rw [emb14 (off := k0_off14 k 2#32 0#32) hk 2 0 (off14 k 2 0), rotE_ix3]
    pointwise
    simp only [View.readAt_apply, hx, hc, hs, hv10, gat]
    exact rotAt x tc ts (off := k0_off12 k 2#32) (off' := k0_off13 k 2#32 0#32) hk 2 0 0 0 rfl (off12 k 2) (off13 k 2 0) _ _ j1 j2
  · intro j
    change (⟨3, ![1, 8, 128]⟩ : Shape).Idx at j
    idx_vars j
    rw [emb14 (off := k0_off14 k 1#32 7#32) hk 1 7 (off14 k 1 7), rotE_ix3]
    pointwise
    simp only [View.readAt_apply, hx, hc, hs, hv10, gat]
    exact rotAt x tc ts (off := k0_off17 k 1#32) (off' := k0_off13 k 1#32 7#32) hk 1 3 1 7 rfl (off17 k 1) (off13 k 1 7) _ _ j1 j2
  · intro j
    change (⟨3, ![1, 8, 128]⟩ : Shape).Idx at j
    idx_vars j
    rw [emb14 (off := k0_off14 k 1#32 6#32) hk 1 6 (off14 k 1 6), rotE_ix3]
    pointwise
    simp only [View.readAt_apply, hx, hc, hs, hv10, gat]
    exact rotAt x tc ts (off := k0_off17 k 1#32) (off' := k0_off13 k 1#32 6#32) hk 1 3 0 6 rfl (off17 k 1) (off13 k 1 6) _ _ j1 j2
  · intro j
    change (⟨3, ![1, 8, 128]⟩ : Shape).Idx at j
    idx_vars j
    rw [emb14 (off := k0_off14 k 1#32 5#32) hk 1 5 (off14 k 1 5), rotE_ix3]
    pointwise
    simp only [View.readAt_apply, hx, hc, hs, hv10, gat]
    exact rotAt x tc ts (off := k0_off16 k 1#32) (off' := k0_off13 k 1#32 5#32) hk 1 2 1 5 rfl (off16 k 1) (off13 k 1 5) _ _ j1 j2
  · intro j
    change (⟨3, ![1, 8, 128]⟩ : Shape).Idx at j
    idx_vars j
    rw [emb14 (off := k0_off14 k 1#32 4#32) hk 1 4 (off14 k 1 4), rotE_ix3]
    pointwise
    simp only [View.readAt_apply, hx, hc, hs, hv10, gat]
    exact rotAt x tc ts (off := k0_off16 k 1#32) (off' := k0_off13 k 1#32 4#32) hk 1 2 0 4 rfl (off16 k 1) (off13 k 1 4) _ _ j1 j2
  · intro j
    change (⟨3, ![1, 8, 128]⟩ : Shape).Idx at j
    idx_vars j
    rw [emb14 (off := k0_off14 k 1#32 3#32) hk 1 3 (off14 k 1 3), rotE_ix3]
    pointwise
    simp only [View.readAt_apply, hx, hc, hs, hv10, gat]
    exact rotAt x tc ts (off := k0_off15 k 1#32) (off' := k0_off13 k 1#32 3#32) hk 1 1 1 3 rfl (off15 k 1) (off13 k 1 3) _ _ j1 j2
  · intro j
    change (⟨3, ![1, 8, 128]⟩ : Shape).Idx at j
    idx_vars j
    rw [emb14 (off := k0_off14 k 1#32 2#32) hk 1 2 (off14 k 1 2), rotE_ix3]
    pointwise
    simp only [View.readAt_apply, hx, hc, hs, hv10, gat]
    exact rotAt x tc ts (off := k0_off15 k 1#32) (off' := k0_off13 k 1#32 2#32) hk 1 1 0 2 rfl (off15 k 1) (off13 k 1 2) _ _ j1 j2
  · intro j
    change (⟨3, ![1, 8, 128]⟩ : Shape).Idx at j
    idx_vars j
    rw [emb14 (off := k0_off14 k 1#32 1#32) hk 1 1 (off14 k 1 1), rotE_ix3]
    pointwise
    simp only [View.readAt_apply, hx, hc, hs, hv10, gat]
    exact rotAt x tc ts (off := k0_off12 k 1#32) (off' := k0_off13 k 1#32 1#32) hk 1 0 1 1 rfl (off12 k 1) (off13 k 1 1) _ _ j1 j2
  · intro j
    change (⟨3, ![1, 8, 128]⟩ : Shape).Idx at j
    idx_vars j
    rw [emb14 (off := k0_off14 k 1#32 0#32) hk 1 0 (off14 k 1 0), rotE_ix3]
    pointwise
    simp only [View.readAt_apply, hx, hc, hs, hv10, gat]
    exact rotAt x tc ts (off := k0_off12 k 1#32) (off' := k0_off13 k 1#32 0#32) hk 1 0 0 0 rfl (off12 k 1) (off13 k 1 0) _ _ j1 j2
  · intro j
    change (⟨3, ![1, 8, 128]⟩ : Shape).Idx at j
    idx_vars j
    rw [emb14 (off := k0_off14 k 0#32 7#32) hk 0 7 (off14 k 0 7), rotE_ix3]
    pointwise
    simp only [View.readAt_apply, hx, hc, hs, hv10, gat]
    exact rotAt x tc ts (off := k0_off17 k 0#32) (off' := k0_off13 k 0#32 7#32) hk 0 3 1 7 rfl (off17 k 0) (off13 k 0 7) _ _ j1 j2
  · intro j
    change (⟨3, ![1, 8, 128]⟩ : Shape).Idx at j
    idx_vars j
    rw [emb14 (off := k0_off14 k 0#32 6#32) hk 0 6 (off14 k 0 6), rotE_ix3]
    pointwise
    simp only [View.readAt_apply, hx, hc, hs, hv10, gat]
    exact rotAt x tc ts (off := k0_off17 k 0#32) (off' := k0_off13 k 0#32 6#32) hk 0 3 0 6 rfl (off17 k 0) (off13 k 0 6) _ _ j1 j2
  · intro j
    change (⟨3, ![1, 8, 128]⟩ : Shape).Idx at j
    idx_vars j
    rw [emb14 (off := k0_off14 k 0#32 5#32) hk 0 5 (off14 k 0 5), rotE_ix3]
    pointwise
    simp only [View.readAt_apply, hx, hc, hs, hv10, gat]
    exact rotAt x tc ts (off := k0_off16 k 0#32) (off' := k0_off13 k 0#32 5#32) hk 0 2 1 5 rfl (off16 k 0) (off13 k 0 5) _ _ j1 j2
  · intro j
    change (⟨3, ![1, 8, 128]⟩ : Shape).Idx at j
    idx_vars j
    rw [emb14 (off := k0_off14 k 0#32 4#32) hk 0 4 (off14 k 0 4), rotE_ix3]
    pointwise
    simp only [View.readAt_apply, hx, hc, hs, hv10, gat]
    exact rotAt x tc ts (off := k0_off16 k 0#32) (off' := k0_off13 k 0#32 4#32) hk 0 2 0 4 rfl (off16 k 0) (off13 k 0 4) _ _ j1 j2
  · intro j
    change (⟨3, ![1, 8, 128]⟩ : Shape).Idx at j
    idx_vars j
    rw [emb14 (off := k0_off14 k 0#32 3#32) hk 0 3 (off14 k 0 3), rotE_ix3]
    pointwise
    simp only [View.readAt_apply, hx, hc, hs, hv10, gat]
    exact rotAt x tc ts (off := k0_off15 k 0#32) (off' := k0_off13 k 0#32 3#32) hk 0 1 1 3 rfl (off15 k 0) (off13 k 0 3) _ _ j1 j2
  · intro j
    change (⟨3, ![1, 8, 128]⟩ : Shape).Idx at j
    idx_vars j
    rw [emb14 (off := k0_off14 k 0#32 2#32) hk 0 2 (off14 k 0 2), rotE_ix3]
    pointwise
    simp only [View.readAt_apply, hx, hc, hs, hv10, gat]
    exact rotAt x tc ts (off := k0_off15 k 0#32) (off' := k0_off13 k 0#32 2#32) hk 0 1 0 2 rfl (off15 k 0) (off13 k 0 2) _ _ j1 j2
  · intro j
    change (⟨3, ![1, 8, 128]⟩ : Shape).Idx at j
    idx_vars j
    rw [emb14 (off := k0_off14 k 0#32 1#32) hk 0 1 (off14 k 0 1), rotE_ix3]
    pointwise
    simp only [View.readAt_apply, hx, hc, hs, hv10, gat]
    exact rotAt x tc ts (off := k0_off12 k 0#32) (off' := k0_off13 k 0#32 1#32) hk 0 0 1 1 rfl (off12 k 0) (off13 k 0 1) _ _ j1 j2
  · intro j
    change (⟨3, ![1, 8, 128]⟩ : Shape).Idx at j
    idx_vars j
    rw [emb14 (off := k0_off14 k 0#32 0#32) hk 0 0 (off14 k 0 0), rotE_ix3]
    pointwise
    simp only [View.readAt_apply, hx, hc, hs, hv10, gat]
    exact rotAt x tc ts (off := k0_off12 k 0#32) (off' := k0_off13 k 0#32 0#32) hk 0 0 0 0 rfl (off12 k 0) (off13 k 0 0) _ _ j1 j2

theorem forall8 {P : Fin 8 → Prop} : (∀ t, P t) ↔ P 0 ∧ P 1 ∧ P 2 ∧ P 3 ∧ P 4 ∧ P 5 ∧ P 6 ∧ P 7 :=
  ⟨fun h => ⟨h 0, h 1, h 2, h 3, h 4, h 5, h 6, h 7⟩, fun ⟨h0, h1, h2, h3, h4, h5, h6, h7⟩ t => by fin_cases t <;> assumption⟩

/-- One trip's maxima bound what they bounded and the trip's rotated elements. -/
theorem t4_step (v10 : IVec S8x128 32) (v28 : FVec Ideal S8x128 .f32) (v78 v80 v82 : IVec S8x128 32) (X : BufTy.Contents (Elt Ideal) arg2.view.ty)
    (XC : BufTy.Contents (Elt Ideal) arg14.view.ty) (XS : BufTy.Contents (Elt Ideal) arg15.view.ty)
    (x : S256x8x8x128.Idx → EReal) (hx : arg2.view.read (Elt Ideal) X = x)
    (tc ts : S2048x128.Idx → EReal) (hc : arg14.view.read (Elt Ideal) XC = tc) (hs : arg15.view.read (Elt Ideal) XS = ts)
    (hv10 : ∀ h l, v10 (ix2 h l) = BitVec.ofNat 32 (swapLane l).val)
    (k : Fin k0_t4_loop.trips) (hk : k.val < 64) (acc : FVec Ideal S8x128 .f32 × FVec Ideal S8x128 .f32) (h : Fin 8) (l : Fin 128) (b : EReal) :
    (max ((tripR_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS k acc).1 (ix2 h l)) ((tripR_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS k acc).2 (ix2 h l)) ≤ b) ↔
      (max (acc.1 (ix2 h l)) (acc.2 (ix2 h l)) ≤ b ∧ ∀ (t : Fin 4) (p : Fin 8), ab (rot x tc ts ⟨32 * k.val + 8 * t.val + p.val, by omega⟩ h l) ≤ b) := by
  unfold tripR_k0_t4 trip_k0_t4
  dsimp only
  sl_unfold_run_names
  unfold_payloads
  pointwise
  simp only [View.readAt_apply, hx, hc, hs, hv10, gat, absf_eq,
    rotAt x tc ts (off := k0_off12 k 0#32) (off' := k0_off13 k 0#32 0#32) hk 0 0 0 0 rfl (off12 k 0) (off13 k 0 0),
    rotAt x tc ts (off := k0_off12 k 0#32) (off' := k0_off13 k 0#32 1#32) hk 0 0 1 1 rfl (off12 k 0) (off13 k 0 1),
    rotAt x tc ts (off := k0_off15 k 0#32) (off' := k0_off13 k 0#32 2#32) hk 0 1 0 2 rfl (off15 k 0) (off13 k 0 2),
    rotAt x tc ts (off := k0_off15 k 0#32) (off' := k0_off13 k 0#32 3#32) hk 0 1 1 3 rfl (off15 k 0) (off13 k 0 3),
    rotAt x tc ts (off := k0_off16 k 0#32) (off' := k0_off13 k 0#32 4#32) hk 0 2 0 4 rfl (off16 k 0) (off13 k 0 4),
    rotAt x tc ts (off := k0_off16 k 0#32) (off' := k0_off13 k 0#32 5#32) hk 0 2 1 5 rfl (off16 k 0) (off13 k 0 5),
    rotAt x tc ts (off := k0_off17 k 0#32) (off' := k0_off13 k 0#32 6#32) hk 0 3 0 6 rfl (off17 k 0) (off13 k 0 6),
    rotAt x tc ts (off := k0_off17 k 0#32) (off' := k0_off13 k 0#32 7#32) hk 0 3 1 7 rfl (off17 k 0) (off13 k 0 7),
    rotAt x tc ts (off := k0_off12 k 1#32) (off' := k0_off13 k 1#32 0#32) hk 1 0 0 0 rfl (off12 k 1) (off13 k 1 0),
    rotAt x tc ts (off := k0_off12 k 1#32) (off' := k0_off13 k 1#32 1#32) hk 1 0 1 1 rfl (off12 k 1) (off13 k 1 1),
    rotAt x tc ts (off := k0_off15 k 1#32) (off' := k0_off13 k 1#32 2#32) hk 1 1 0 2 rfl (off15 k 1) (off13 k 1 2),
    rotAt x tc ts (off := k0_off15 k 1#32) (off' := k0_off13 k 1#32 3#32) hk 1 1 1 3 rfl (off15 k 1) (off13 k 1 3),
    rotAt x tc ts (off := k0_off16 k 1#32) (off' := k0_off13 k 1#32 4#32) hk 1 2 0 4 rfl (off16 k 1) (off13 k 1 4),
    rotAt x tc ts (off := k0_off16 k 1#32) (off' := k0_off13 k 1#32 5#32) hk 1 2 1 5 rfl (off16 k 1) (off13 k 1 5),
    rotAt x tc ts (off := k0_off17 k 1#32) (off' := k0_off13 k 1#32 6#32) hk 1 3 0 6 rfl (off17 k 1) (off13 k 1 6),
    rotAt x tc ts (off := k0_off17 k 1#32) (off' := k0_off13 k 1#32 7#32) hk 1 3 1 7 rfl (off17 k 1) (off13 k 1 7),
    rotAt x tc ts (off := k0_off12 k 2#32) (off' := k0_off13 k 2#32 0#32) hk 2 0 0 0 rfl (off12 k 2) (off13 k 2 0),
    rotAt x tc ts (off := k0_off12 k 2#32) (off' := k0_off13 k 2#32 1#32) hk 2 0 1 1 rfl (off12 k 2) (off13 k 2 1),
    rotAt x tc ts (off := k0_off15 k 2#32) (off' := k0_off13 k 2#32 2#32) hk 2 1 0 2 rfl (off15 k 2) (off13 k 2 2),
    rotAt x tc ts (off := k0_off15 k 2#32) (off' := k0_off13 k 2#32 3#32) hk 2 1 1 3 rfl (off15 k 2) (off13 k 2 3),
    rotAt x tc ts (off := k0_off16 k 2#32) (off' := k0_off13 k 2#32 4#32) hk 2 2 0 4 rfl (off16 k 2) (off13 k 2 4),
    rotAt x tc ts (off := k0_off16 k 2#32) (off' := k0_off13 k 2#32 5#32) hk 2 2 1 5 rfl (off16 k 2) (off13 k 2 5),
    rotAt x tc ts (off := k0_off17 k 2#32) (off' := k0_off13 k 2#32 6#32) hk 2 3 0 6 rfl (off17 k 2) (off13 k 2 6),
    rotAt x tc ts (off := k0_off17 k 2#32) (off' := k0_off13 k 2#32 7#32) hk 2 3 1 7 rfl (off17 k 2) (off13 k 2 7),
    rotAt x tc ts (off := k0_off12 k 3#32) (off' := k0_off13 k 3#32 0#32) hk 3 0 0 0 rfl (off12 k 3) (off13 k 3 0),
    rotAt x tc ts (off := k0_off12 k 3#32) (off' := k0_off13 k 3#32 1#32) hk 3 0 1 1 rfl (off12 k 3) (off13 k 3 1),
    rotAt x tc ts (off := k0_off15 k 3#32) (off' := k0_off13 k 3#32 2#32) hk 3 1 0 2 rfl (off15 k 3) (off13 k 3 2),
    rotAt x tc ts (off := k0_off15 k 3#32) (off' := k0_off13 k 3#32 3#32) hk 3 1 1 3 rfl (off15 k 3) (off13 k 3 3),
    rotAt x tc ts (off := k0_off16 k 3#32) (off' := k0_off13 k 3#32 4#32) hk 3 2 0 4 rfl (off16 k 3) (off13 k 3 4),
    rotAt x tc ts (off := k0_off16 k 3#32) (off' := k0_off13 k 3#32 5#32) hk 3 2 1 5 rfl (off16 k 3) (off13 k 3 5),
    rotAt x tc ts (off := k0_off17 k 3#32) (off' := k0_off13 k 3#32 6#32) hk 3 3 0 6 rfl (off17 k 3) (off13 k 3 6),
    rotAt x tc ts (off := k0_off17 k 3#32) (off' := k0_off13 k 3#32 7#32) hk 3 3 1 7 rfl (off17 k 3) (off13 k 3 7)]
  simp only [forall4, forall8, max_le_iff]
  constructor
  · rintro ⟨⟨⟨⟨⟨⟨⟨⟨⟨⟨⟨⟨⟨⟨⟨⟨⟨h1, a00⟩, a01⟩, a02⟩, a03⟩, a04⟩, a05⟩, a06⟩, a07⟩, a20⟩, a21⟩, a22⟩, a23⟩, a24⟩, a25⟩, a26⟩, a27⟩, ⟨⟨⟨⟨⟨⟨⟨⟨⟨⟨⟨⟨⟨⟨⟨⟨h2, a10⟩, a11⟩, a12⟩, a13⟩, a14⟩, a15⟩, a16⟩, a17⟩, a30⟩, a31⟩, a32⟩, a33⟩, a34⟩, a35⟩, a36⟩, a37⟩⟩
    exact ⟨⟨h1, h2⟩, ⟨a00, a01, a02, a03, a04, a05, a06, a07⟩, ⟨a10, a11, a12, a13, a14, a15, a16, a17⟩, ⟨a20, a21, a22, a23, a24, a25, a26, a27⟩, ⟨a30, a31, a32, a33, a34, a35, a36, a37⟩⟩
  · rintro ⟨⟨h1, h2⟩, ⟨a00, a01, a02, a03, a04, a05, a06, a07⟩, ⟨a10, a11, a12, a13, a14, a15, a16, a17⟩, ⟨a20, a21, a22, a23, a24, a25, a26, a27⟩, ⟨a30, a31, a32, a33, a34, a35, a36, a37⟩⟩
    exact ⟨⟨⟨⟨⟨⟨⟨⟨⟨⟨⟨⟨⟨⟨⟨⟨⟨h1, a00⟩, a01⟩, a02⟩, a03⟩, a04⟩, a05⟩, a06⟩, a07⟩, a20⟩, a21⟩, a22⟩, a23⟩, a24⟩, a25⟩, a26⟩, a27⟩, ⟨⟨⟨⟨⟨⟨⟨⟨⟨⟨⟨⟨⟨⟨⟨⟨h2, a10⟩, a11⟩, a12⟩, a13⟩, a14⟩, a15⟩, a16⟩, a17⟩, a30⟩, a31⟩, a32⟩, a33⟩, a34⟩, a35⟩, a36⟩, a37⟩⟩

theorem trips4 : k0_t4_loop.trips = 64 := by decide +kernel

theorem t4_upto (v10 : IVec S8x128 32) (v28 : FVec Ideal S8x128 .f32) (v78 v80 v82 : IVec S8x128 32) (X : BufTy.Contents (Elt Ideal) arg2.view.ty)
    (XC : BufTy.Contents (Elt Ideal) arg14.view.ty) (XS : BufTy.Contents (Elt Ideal) arg15.view.ty)
    (x : S256x8x8x128.Idx → EReal) (hx : arg2.view.read (Elt Ideal) X = x)
    (tc ts : S2048x128.Idx → EReal) (hc : arg14.view.read (Elt Ideal) XC = tc) (hs : arg15.view.read (Elt Ideal) XS = ts)
    (hv10 : ∀ h l, v10 (ix2 h l) = BitVec.ofNat 32 (swapLane l).val)
    (init : FVec Ideal S8x128 .f32 × FVec Ideal S8x128 .f32) (h : Fin 8) (l : Fin 128) (b : EReal) (n : ℕ) (hn : n ≤ 64) :
    (max ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init n).1.1 (ix2 h l)) ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init n).1.2 (ix2 h l)) ≤ b) ↔
      (max (init.1 (ix2 h l)) (init.2 (ix2 h l)) ≤ b ∧ ∀ (k : Fin 64) (_ : k.val < n) (t : Fin 4) (p : Fin 8), ab (rot x tc ts ⟨32 * k.val + 8 * t.val + p.val, by omega⟩ h l) ≤ b) := by
  induction n with
  | zero =>
    show max (init.1 (ix2 h l)) (init.2 (ix2 h l)) ≤ b ↔ _
    simp
  | succ n ih =>
    have hnt : n < k0_t4_loop.trips := by rw [trips4]; omega
    rw [show n + 1 = (⟨n, hnt⟩ : Fin k0_t4_loop.trips).val + 1 from rfl, st_k0_t4_succ,
      t4_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS x hx tc ts hc hs hv10 ⟨n, hnt⟩ (by show n < 64; omega), ih (by omega), and_assoc]
    refine and_congr_right fun _ => ⟨?_, ?_⟩
    · rintro ⟨h1, h2⟩ k hk t r
      by_cases hkn : k.val = n
      · have := h2 t r
        simp only [hkn]; exact this
      · have hk' : k.val < n + 1 := hk
        exact h1 k (by show k.val < n; omega) t r
    · intro h1
      exact ⟨fun k hk => h1 k (Nat.lt_succ_of_lt hk), fun t r => h1 ⟨n, by omega⟩ (by simp) t r⟩

/-- The carried maxima after the loop bound exactly the rotated elements of their head and lane. -/
theorem t4_read (v10 : IVec S8x128 32) (v28 : FVec Ideal S8x128 .f32) (v78 v80 v82 : IVec S8x128 32) (X : BufTy.Contents (Elt Ideal) arg2.view.ty)
    (XC : BufTy.Contents (Elt Ideal) arg14.view.ty) (XS : BufTy.Contents (Elt Ideal) arg15.view.ty)
    (x : S256x8x8x128.Idx → EReal) (hx : arg2.view.read (Elt Ideal) X = x)
    (tc ts : S2048x128.Idx → EReal) (hc : arg14.view.read (Elt Ideal) XC = tc) (hs : arg15.view.read (Elt Ideal) XS = ts)
    (hv10 : ∀ h l, v10 (ix2 h l) = BitVec.ofNat 32 (swapLane l).val)
    (init : FVec Ideal S8x128 .f32 × FVec Ideal S8x128 .f32) (h : Fin 8) (l : Fin 128) (b : EReal) :
    (max ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init k0_t4_loop.trips).1.1 (ix2 h l)) ((st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init k0_t4_loop.trips).1.2 (ix2 h l)) ≤ b) ↔
      (max (init.1 (ix2 h l)) (init.2 (ix2 h l)) ≤ b ∧ ∀ p : Fin 2048, ab (rot x tc ts p h l) ≤ b) := by
  rw [t4_upto 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS x hx tc ts hc hs hv10 init h l b k0_t4_loop.trips (by rw [trips4])]
  refine and_congr_right fun _ => ⟨?_, ?_⟩
  · intro h1 p
    have := h1 ⟨p.val / 32, by omega⟩ (by rw [trips4]; show p.val / 32 < 64; omega) ⟨p.val / 8 % 4, by omega⟩ ⟨p.val % 8, by omega⟩
    rwa [show (⟨32 * (p.val / 32) + 8 * (p.val / 8 % 4) + p.val % 8, by omega⟩ : Fin 2048) = p from Fin.ext (by simp only []; omega)] at this
  · intro h1 k hk t r
    exact h1 _

/-- The pieces that the loop has written before trip `n`. -/
theorem t4_list (v10 : IVec S8x128 32) (v28 : FVec Ideal S8x128 .f32) (v78 v80 v82 : IVec S8x128 32) (X : BufTy.Contents (Elt Ideal) arg2.view.ty)
    (XC : BufTy.Contents (Elt Ideal) arg14.view.ty) (XS : BufTy.Contents (Elt Ideal) arg15.view.ty)
    (x : S256x8x8x128.Idx → EReal) (hx : arg2.view.read (Elt Ideal) X = x)
    (tc ts : S2048x128.Idx → EReal) (hc : arg14.view.read (Elt Ideal) XC = tc) (hs : arg15.view.read (Elt Ideal) XS = ts)
    (hv10 : ∀ h l, v10 (ix2 h l) = BitVec.ofNat 32 (swapLane l).val) (init : FVec Ideal S8x128 .f32 × FVec Ideal S8x128 .f32) (f : BufTy.Contents (Elt Ideal) arg16.view.ty) :
    arg16.view.read (Elt Ideal) (arg16.view.writes (Elt Ideal) f (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init k0_t4_loop.trips).2) = rotE x tc ts := by
  refine read_loop arg16.view f _ k0_t4_loop.trips (fun n => (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init n).2)
    (fun k => tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS k (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init k.val).1) rfl
    (fun k => congrArg Prod.snd (st_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS init k)) ?_ ?_
  · intro k
    exact t4_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v10 v28 v78 v80 v82 X XC XS x hx tc ts hc hs hv10 _ k (by rw [← trips4]; exact k.isLt)
  · intro y
    have hy : (y 0).val < 2048 := (y 0).isLt
    have hy2 : (y 1).val < 8 := (y 1).isLt
    have hy3 : (y 2).val < 128 := (y 2).isLt
    refine ⟨⟨(y 0).val / 32, by rw [trips4]; omega⟩, ?_⟩
    unfold tripL_k0_t4 trip_k0_t4
    dsimp only
    simp only [List.exists_mem_cons_iff]
    have hcov : ∀ (t : Fin 4) (p : Fin 8), (y 0).val % 32 = 8 * t.val + p.val → ∀ off inb, off = ![32 * ((y 0).val / 32) + 8 * t.val + p.val, 0, 0] →
        y ∈ (Rect.unit (s := S2048x8x128) off ![1, 8, 128] inb).set := by
      intro t p ht off inb ho
      subst ho
      rw [Rect.mem_set_unit]
      intro a
      fin_cases a <;> simp <;> omega
    have h32 : (y 0).val % 32 < 32 := Nat.mod_lt _ (by omega)
    interval_cases hh : (y 0).val % 32
    · right; right; right; right; right; right; right; right; right; right; right; right; right; right; right; right; right; right; right; right; right; right; right; right; right; right; right; right; right; right; right; left; exact hcov 0 0 rfl _ _ (off14 _ 0 0)
    · right; right; right; right; right; right; right; right; right; right; right; right; right; right; right; right; right; right; right; right; right; right; right; right; right; right; right; right; right; right; left; exact hcov 0 1 rfl _ _ (off14 _ 0 1)
    · right; right; right; right; right; right; right; right; right; right; right; right; right; right; right; right; right; right; right; right; right; right; right; right; right; right; right; right; right; left; exact hcov 0 2 rfl _ _ (off14 _ 0 2)
    · right; right; right; right; right; right; right; right; right; right; right; right; right; right; right; right; right; right; right; right; right; right; right; right; right; right; right; right; left; exact hcov 0 3 rfl _ _ (off14 _ 0 3)
    · right; right; right; right; right; right; right; right; right; right; right; right; right; right; right; right; right; right; right; right; right; right; right; right; right; right; right; left; exact hcov 0 4 rfl _ _ (off14 _ 0 4)
    · right; right; right; right; right; right; right; right; right; right; right; right; right; right; right; right; right; right; right; right; right; right; right; right; right; right; left; exact hcov 0 5 rfl _ _ (off14 _ 0 5)
    · right; right; right; right; right; right; right; right; right; right; right; right; right; right; right; right; right; right; right; right; right; right; right; right; right; left; exact hcov 0 6 rfl _ _ (off14 _ 0 6)
    · right; right; right; right; right; right; right; right; right; right; right; right; right; right; right; right; right; right; right; right; right; right; right; right; left; exact hcov 0 7 rfl _ _ (off14 _ 0 7)
    · right; right; right; right; right; right; right; right; right; right; right; right; right; right; right; right; right; right; right; right; right; right; right; left; exact hcov 1 0 rfl _ _ (off14 _ 1 0)
    · right; right; right; right; right; right; right; right; right; right; right; right; right; right; right; right; right; right; right; right; right; right; left; exact hcov 1 1 rfl _ _ (off14 _ 1 1)
    · right; right; right; right; right; right; right; right; right; right; right; right; right; right; right; right; right; right; right; right; right; left; exact hcov 1 2 rfl _ _ (off14 _ 1 2)
    · right; right; right; right; right; right; right; right; right; right; right; right; right; right; right; right; right; right; right; right; left; exact hcov 1 3 rfl _ _ (off14 _ 1 3)
    · right; right; right; right; right; right; right; right; right; right; right; right; right; right; right; right; right; right; right; left; exact hcov 1 4 rfl _ _ (off14 _ 1 4)
    · right; right; right; right; right; right; right; right; right; right; right; right; right; right; right; right; right; right; left; exact hcov 1 5 rfl _ _ (off14 _ 1 5)
    · right; right; right; right; right; right; right; right; right; right; right; right; right; right; right; right; right; left; exact hcov 1 6 rfl _ _ (off14 _ 1 6)
    · right; right; right; right; right; right; right; right; right; right; right; right; right; right; right; right; left; exact hcov 1 7 rfl _ _ (off14 _ 1 7)
    · right; right; right; right; right; right; right; right; right; right; right; right; right; right; right; left; exact hcov 2 0 rfl _ _ (off14 _ 2 0)
    · right; right; right; right; right; right; right; right; right; right; right; right; right; right; left; exact hcov 2 1 rfl _ _ (off14 _ 2 1)
    · right; right; right; right; right; right; right; right; right; right; right; right; right; left; exact hcov 2 2 rfl _ _ (off14 _ 2 2)
    · right; right; right; right; right; right; right; right; right; right; right; right; left; exact hcov 2 3 rfl _ _ (off14 _ 2 3)
    · right; right; right; right; right; right; right; right; right; right; right; left; exact hcov 2 4 rfl _ _ (off14 _ 2 4)
    · right; right; right; right; right; right; right; right; right; right; left; exact hcov 2 5 rfl _ _ (off14 _ 2 5)
    · right; right; right; right; right; right; right; right; right; left; exact hcov 2 6 rfl _ _ (off14 _ 2 6)
    · right; right; right; right; right; right; right; right; left; exact hcov 2 7 rfl _ _ (off14 _ 2 7)
    · right; right; right; right; right; right; right; left; exact hcov 3 0 rfl _ _ (off14 _ 3 0)
    · right; right; right; right; right; right; left; exact hcov 3 1 rfl _ _ (off14 _ 3 1)
    · right; right; right; right; right; left; exact hcov 3 2 rfl _ _ (off14 _ 3 2)
    · right; right; right; right; left; exact hcov 3 3 rfl _ _ (off14 _ 3 3)
    · right; right; right; left; exact hcov 3 4 rfl _ _ (off14 _ 3 4)
    · right; right; left; exact hcov 3 5 rfl _ _ (off14 _ 3 5)
    · right; left; exact hcov 3 6 rfl _ _ (off14 _ 3 6)
    · left; exact hcov 3 7 rfl _ _ (off14 _ 3 7)

theorem trips5 : k0_t5_loop.trips = 64 := by decide +kernel
theorem off18 (k : Fin k0_t5_loop.trips) : k0_off18 k = ![32 * k.val, 0, 0] := by
  revert k; decide +kernel
theorem off19 (k : Fin k0_t5_loop.trips) : k0_off19 k = ![0, 32 * k.val, 0, 0] := by
  revert k; decide +kernel

end
end Cert.Rope
end
-- ==== Proof.TLoops.lean ====
/-
  The loop that makes the tables of one batch, and the loop that writes the codes of the first operand.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import proofs.«01_k».proof.Proof.Field
public import proofs.«01_k».proof.Proof.KLoops

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

theorem trips1 : k0_t1_loop.trips = 32 := by decide +kernel
theorem off2 (k : Fin k0_t1_loop.trips) : k0_off2 k = ![64 * k.val, 0] := by
  revert k; decide +kernel

/-- The tables of a sum of two angles, from the tables of the first and the cosines and signed sines of the second. -/
def sumC (bc bs : S2048x128.Idx → EReal) (oc os : Fin 128 → EReal) : S2048x128.Idx → EReal := fun j => bc j * oc (j 1) - bs j * os (j 1)
def sumS (bc bs : S2048x128.Idx → EReal) (oc os : Fin 128 → EReal) : S2048x128.Idx → EReal := fun j => bs j * oc (j 1) + bc j * os (j 1)

theorem sumC_ix2 (bc bs : S2048x128.Idx → EReal) (oc os : Fin 128 → EReal) (p : Fin 2048) (l : Fin 128) :
    sumC bc bs oc os (ix2 p l) = bc (ix2 p l) * oc l - bs (ix2 p l) * os l := rfl
theorem sumS_ix2 (bc bs : S2048x128.Idx → EReal) (oc os : Fin 128 → EReal) (p : Fin 2048) (l : Fin 128) :
    sumS bc bs oc os (ix2 p l) = bs (ix2 p l) * oc l + bc (ix2 p l) * os l := rfl

theorem ld_rows (x : S2048x128.Idx → EReal) {off : Fin 2 → Nat} {k : ℕ} (hk : k < 32) (ho : off = ![64 * k, 0])
    (inb : ∀ a, off a + ![64, 128] a ≤ S2048x128.size a) (r : Fin 64) (l : Fin 128) :
    x ((Rect.unit (s := S2048x128) off ![64, 128] inb).toLoadRect.idx (ix2 r l)) = x (ix2 ⟨64 * k + r.val, by omega⟩ l) := by
  subst ho
  pointwise

theorem emb2 {off : Fin 2 → Nat} {k : ℕ} (hk : k < 32) (ho : off = ![64 * k, 0])
    (inb : ∀ a, off a + ![64, 128] a ≤ S2048x128.size a) (r : Fin 64) (l : Fin 128) :
    (Rect.unit (s := S2048x128) off ![64, 128] inb).emb (ix2 r l) = ix2 ⟨64 * k + r.val, by omega⟩ l := by
  subst ho
  funext b
  apply Fin.ext
  rw [Rect.emb_apply]
  fin_cases b <;> simp

theorem t1_pieces_c (v4 v6 : Vec Ideal S1x128 .f32) (XC : BufTy.Contents (Elt Ideal) arg10.view.ty) (XS : BufTy.Contents (Elt Ideal) arg11.view.ty)
    (bc bs : S2048x128.Idx → EReal) (hc : arg10.view.read (Elt Ideal) XC = bc) (hs : arg11.view.read (Elt Ideal) XS = bs) (k : Fin k0_t1_loop.trips) (hk : k.val < 32) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k).1, ∀ j : p.1.shape.Idx,
      p.2 j = sumC bc bs (fun l => v4 (ix2 0 l)) (fun l => v6 (ix2 0 l)) (p.1.emb j) := by
  unfold tripL_k0_t1 trip_k0_t1
  dsimp only
  sl_unfold_run_names
  unfold_payloads
  simp only [List.forall_mem_cons]
  refine ⟨?_, by simp⟩
  intro j
  change (⟨2, ![64, 128]⟩ : Shape).Idx at j
  idx_vars j
  rw [emb2 (off := k0_off2 k) hk (off2 k), sumC_ix2]
  pointwise
  simp only [View.readAt_apply, hc, hs, ld_rows (off := k0_off2 k) bc hk (off2 k), ld_rows (off := k0_off2 k) bs hk (off2 k)]

theorem t1_pieces_s (v4 v6 : Vec Ideal S1x128 .f32) (XC : BufTy.Contents (Elt Ideal) arg10.view.ty) (XS : BufTy.Contents (Elt Ideal) arg11.view.ty)
    (bc bs : S2048x128.Idx → EReal) (hc : arg10.view.read (Elt Ideal) XC = bc) (hs : arg11.view.read (Elt Ideal) XS = bs) (k : Fin k0_t1_loop.trips) (hk : k.val < 32) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k).2, ∀ j : p.1.shape.Idx,
      p.2 j = sumS bc bs (fun l => v4 (ix2 0 l)) (fun l => v6 (ix2 0 l)) (p.1.emb j) := by
  unfold tripL_k0_t1 trip_k0_t1
  dsimp only
  sl_unfold_run_names
  unfold_payloads
  simp only [List.forall_mem_cons]
  refine ⟨?_, by simp⟩
  intro j
  change (⟨2, ![64, 128]⟩ : Shape).Idx at j
  idx_vars j
  rw [emb2 (off := k0_off2 k) hk (off2 k), sumS_ix2]
  pointwise
  simp only [View.readAt_apply, hc, hs, ld_rows (off := k0_off2 k) bc hk (off2 k), ld_rows (off := k0_off2 k) bs hk (off2 k)]

theorem cover2 (y : S2048x128.Idx) (off inb) (ho : off = ![64 * ((y 0).val / 64), 0]) : y ∈ (Rect.unit (s := S2048x128) off ![64, 128] inb).set := by
  have hy : (y 0).val < 2048 := (y 0).isLt
  have hy1 : (y 1).val < 128 := (y 1).isLt
  subst ho
  rw [Rect.mem_set_unit]
  intro a
  fin_cases a <;> simp <;> omega

/-- After the loop over the tables the table of one batch is the sum of the angles. -/
theorem t1_read_c (v4 v6 : Vec Ideal S1x128 .f32) (XC : BufTy.Contents (Elt Ideal) arg10.view.ty) (XS : BufTy.Contents (Elt Ideal) arg11.view.ty)
    (bc bs : S2048x128.Idx → EReal) (hc : arg10.view.read (Elt Ideal) XC = bc) (hs : arg11.view.read (Elt Ideal) XS = bs) (f : BufTy.Contents (Elt Ideal) arg14.view.ty) :
    arg14.view.read (Elt Ideal) (arg14.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k0_t1_loop.trips).1)
      = sumC bc bs (fun l => v4 (ix2 0 l)) (fun l => v6 (ix2 0 l)) := by
  refine read_loop arg14.view f _ k0_t1_loop.trips (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS n).1)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k).1) rfl
    (fun k => congrArg (fun z => z.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k)) ?_ ?_
  · intro k
    exact t1_pieces_c 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS bc bs hc hs k (Nat.lt_of_lt_of_eq k.isLt trips1)
  · intro y
    have hy : (y 0).val < 2048 := (y 0).isLt
    refine ⟨⟨(y 0).val / 64, by rw [trips1]; omega⟩, ?_⟩
    unfold tripL_k0_t1 trip_k0_t1
    dsimp only
    simp only [List.exists_mem_cons_iff]
    left; exact cover2 y _ _ (off2 _)

/-- After the loop over the tables the table of one batch is the sum of the angles. -/
theorem t1_read_s (v4 v6 : Vec Ideal S1x128 .f32) (XC : BufTy.Contents (Elt Ideal) arg10.view.ty) (XS : BufTy.Contents (Elt Ideal) arg11.view.ty)
    (bc bs : S2048x128.Idx → EReal) (hc : arg10.view.read (Elt Ideal) XC = bc) (hs : arg11.view.read (Elt Ideal) XS = bs) (f : BufTy.Contents (Elt Ideal) arg15.view.ty) :
    arg15.view.read (Elt Ideal) (arg15.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k0_t1_loop.trips).2)
      = sumS bc bs (fun l => v4 (ix2 0 l)) (fun l => v6 (ix2 0 l)) := by
  refine read_loop arg15.view f _ k0_t1_loop.trips (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS n).2)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k).2) rfl
    (fun k => congrArg (fun z => z.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS k)) ?_ ?_
  · intro k
    exact t1_pieces_s 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v6 XC XS bc bs hc hs k (Nat.lt_of_lt_of_eq k.isLt trips1)
  · intro y
    have hy : (y 0).val < 2048 := (y 0).isLt
    refine ⟨⟨(y 0).val / 64, by rw [trips1]; omega⟩, ?_⟩
    unfold tripL_k0_t1 trip_k0_t1
    dsimp only
    simp only [List.exists_mem_cons_iff]
    left; exact cover2 y _ _ (off2 _)

theorem ld_block (x : S2048x8x128.Idx → EReal) {off : Fin 3 → Nat} {k : ℕ} (hk : k < 64) (ho : off = ![32 * k, 0, 0])
    (inb : ∀ a, off a + ![32, 8, 128] a ≤ S2048x8x128.size a) (r : Fin 32) (h : Fin 8) (l : Fin 128) :
    x ((Rect.unit (s := S2048x8x128) off ![32, 8, 128] inb).toLoadRect.idx (ix3 r h l)) = x (ix3 ⟨32 * k + r.val, by omega⟩ h l) := by
  subst ho
  pointwise

theorem emb19 {off : Fin 4 → Nat} {k : ℕ} (hk : k < 64) (ho : off = ![0, 32 * k, 0, 0])
    (inb : ∀ a, off a + ![1, 32, 8, 128] a ≤ S1x2048x8x128.size a) (b : Fin 1) (r : Fin 32) (h : Fin 8) (l : Fin 128) :
    (Rect.unit (s := S1x2048x8x128) off ![1, 32, 8, 128] inb).emb (ix4 b r h l) = ix4 0 ⟨32 * k + r.val, by omega⟩ h l := by
  subst ho
  funext b
  apply Fin.ext
  rw [Rect.emb_apply]
  fin_cases b <;> simp

theorem t5_pieces (a : FVec Ideal S8x128 .f32) (Y : BufTy.Contents (Elt Ideal) arg16.view.ty) (y : Fin 2048 → Fin 8 → Fin 128 → EReal)
    (hy : arg16.view.read (Elt Ideal) Y = fun j => y (j 0) (j 1) (j 2)) (iv : Fin 8 → EReal) (hiv : ∀ h l, kInv (k0_pay441 (F := Ideal) a (ix2 h l)) = iv h) (k : Fin k0_t5_loop.trips) (hk : k.val < 64) :
    ∀ p ∈ tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay441 a) (k0_pay442 a) 2#32 Y k, ∀ j : p.1.shape.Idx, p.2 j = codes y iv (p.1.emb j) := by
  unfold tripL_k0_t5 trip_k0_t5
  dsimp only
  sl_unfold_run_names
  simp only [List.forall_mem_cons]
  refine ⟨?_, by simp⟩
  intro j
  change (⟨4, ![1, 32, 8, 128]⟩ : Shape).Idx at j
  idx_vars j
  rw [emb19 (off := k0_off19 k) hk (off19 k), codes_ix4]
  refine (kCodes_apply a _ _ _ _ _).trans ?_
  rw [hiv]
  simp only [View.readAt_apply, hy, ld_block (off := k0_off18 k) (fun j => y (j 0) (j 1) (j 2)) hk (off18 k)]
  rfl

/-- After the last loop the buffer holds the codes. -/
theorem t5_read (a : FVec Ideal S8x128 .f32) (Y : BufTy.Contents (Elt Ideal) arg16.view.ty) (y : Fin 2048 → Fin 8 → Fin 128 → EReal)
    (hy : arg16.view.read (Elt Ideal) Y = fun j => y (j 0) (j 1) (j 2)) (iv : Fin 8 → EReal) (hiv : ∀ h l, kInv (k0_pay441 (F := Ideal) a (ix2 h l)) = iv h) (f : BufTy.Contents (Elt Ideal) arg4.view.ty) :
    arg4.view.read (Elt Ideal) (arg4.view.writes (Elt Ideal) f (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay441 a) (k0_pay442 a) 2#32 Y k0_t5_loop.trips)) = codes y iv := by
  refine read_loop arg4.view f _ k0_t5_loop.trips _
    (fun k => tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay441 a) (k0_pay442 a) 2#32 Y k) rfl
    (fun k => pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay441 a) (k0_pay442 a) 2#32 Y k) ?_ ?_
  · intro k
    exact t5_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 a Y y hy iv hiv k (Nat.lt_of_lt_of_eq k.isLt trips5)
  · intro z
    have hz : (z 1).val < 2048 := (z 1).isLt
    have hz0 : (z 0).val < 1 := (z 0).isLt
    have hz2 : (z 2).val < 8 := (z 2).isLt
    have hz3 : (z 3).val < 128 := (z 3).isLt
    refine ⟨⟨(z 1).val / 32, by rw [trips5]; omega⟩, ?_⟩
    unfold tripL_k0_t5 trip_k0_t5
    dsimp only
    simp only [List.exists_mem_cons_iff]
    left
    have : ∀ off inb, off = ![0, 32 * ((z 1).val / 32), 0, 0] → z ∈ (Rect.unit (s := S1x2048x8x128) off ![1, 32, 8, 128] inb).set := by
      intro off inb ho
      subst ho
      rw [Rect.mem_set_unit]
      intro a
      fin_cases a <;> simp <;> omega
    exact this _ _ (off19 _)

end
end Cert.Rope
end
-- ==== Proof.Trig.lean ====
/-
  The angle tables of the first grid point: the correction of the split frequency is zero on reals, so that the stored
  entries are the cosine and the signed sine of a position times the lane's frequency.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import proofs.«01_k».proof.Proof.Field

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

/-! ## Real entries -/

/-- Every entry is a real number. -/
def Rl {s : Shape} (v : FVec Ideal s .f32) : Prop := ∀ j, ∃ r : ℝ, v j = (r : EReal)

theorem ofBits_half : Ideal.ofBits .f32 0x3F000000#32 = ((1 / 2 : ℝ) : EReal) := by
  refine (ieee_normal 8 23 (0x3F000000#32) false 126 0 rfl rfl rfl (by norm_num) (by norm_num)).trans ?_
  refine congrArg (fun r : ℝ => (r : EReal)) ?_; norm_num

theorem ofBits_mone : Ideal.ofBits .f32 0xBF800000#32 = ((-1 : ℝ) : EReal) := by
  refine (ieee_normal 8 23 (0xBF800000#32) true 127 0 rfl rfl rfl (by norm_num) (by norm_num)).trans ?_
  refine congrArg (fun r : ℝ => (r : EReal)) ?_; norm_num

theorem ofBits_m64 : Ideal.ofBits .f32 0xBC800000#32 = ((-(1 / 64) : ℝ) : EReal) := by
  refine (ieee_normal 8 23 (0xBC800000#32) true 121 0 rfl rfl rfl (by norm_num) (by norm_num)).trans ?_
  refine congrArg (fun r : ℝ => (r : EReal)) ?_; norm_num

variable {s : Shape}

theorem rl_bc {b : BitVec 32} {x : ℝ} (h : Ideal.ofBits .f32 b = (x : EReal)) : Rl (broadcast s (Scalar.ofBits .f32 b : Ideal .f32)) :=
  fun _ => ⟨x, h⟩

theorem rl_half : Rl (broadcast s (Scalar.ofBits .f32 0x3F000000#32 : Ideal .f32)) := rl_bc ofBits_half

theorem rl_one : Rl (broadcast s (Scalar.ofBits .f32 0x3F800000#32 : Ideal .f32)) := rl_bc ofBits_one

theorem rl_1024 : Rl (broadcast s (Scalar.ofBits .f32 0x44800000#32 : Ideal .f32)) :=
  rl_bc (ieee_normal 8 23 (0x44800000#32) false 137 0 rfl rfl rfl (by norm_num) (by norm_num))

theorem rl_r1024 : Rl (broadcast s (Scalar.ofBits .f32 0x3A800000#32 : Ideal .f32)) :=
  rl_bc (ieee_normal 8 23 (0x3A800000#32) false 117 0 rfl rfl rfl (by norm_num) (by norm_num))

theorem rl_mul {u v : FVec Ideal s .f32} (hu : Rl u) (hv : Rl v) : Rl (mulf u v) := fun j => by
  obtain ⟨x, hx⟩ := hu j
  obtain ⟨y, hy⟩ := hv j
  exact ⟨x * y, show u j * v j = _ by rw [hx, hy, EReal.coe_mul]⟩

theorem rl_floor {u : FVec Ideal s .f32} (hu : Rl u) : Rl (floor u) := fun j => by
  obtain ⟨x, hx⟩ := hu j
  exact ⟨(⌊x⌋ : ℝ), show Ideal.liftRound Int.floor (u j) = _ by rw [hx, Ideal.liftRound_coe]⟩

theorem rl_sel (cnd : IVec s 1) {u v : FVec Ideal s .f32} (hu : Rl u) (hv : Rl v) : Rl (select cnd u v) := fun j => by
  show ∃ r : ℝ, (if cnd j = 1#1 then u j else v j) = _
  split
  · exact hu j
  · exact hv j

theorem rl_dbl (cnd : IVec s 1) {v : FVec Ideal s .f32} (hv : Rl v) : Rl (select cnd (addf v v) v) := by
  refine rl_sel cnd (fun j => ?_) hv
  obtain ⟨x, hx⟩ := hv j
  exact ⟨x + x, show v j + v j = _ by rw [hx, EReal.coe_add]⟩

theorem rl_hlv (cnd : IVec s 1) {h v : FVec Ideal s .f32} (hh : Rl h) (hv : Rl v) : Rl (select cnd (mulf h v) v) :=
  rl_sel cnd (rl_mul hh hv) hv

/-- The two remainders of the split frequency cancel: with real entries the correction is zero. -/
theorem err_eq {n f hi : FVec Ideal s .f32} (hn : Rl n) (hf : Rl f) (hh : Rl hi) (j : s.Idx) :
    addf (subf (mulf n hi) (mulf n f)) (mulf n (subf f hi)) j = (0 : EReal) := by
  obtain ⟨x, hx⟩ := hn j
  obtain ⟨y, hy⟩ := hf j
  obtain ⟨z, hz⟩ := hh j
  show (n j * hi j - n j * f j) + n j * (f j - hi j) = 0
  rw [hx, hy, hz]
  have : ((x * z - x * y + x * (y - z) : ℝ) : EReal) = 0 := by
    rw [show x * z - x * y + x * (y - z) = 0 by ring]; rfl
  rw [← this]; push_cast; rfl

/-- A cosine corrected by nothing. -/
theorem cos_corr {p e : EReal} (he : e = 0) : (Ideal.cos p : EReal) - e * Ideal.sin p = Ideal.cos p := by
  rw [he, zero_mul, sub_zero]

/-- A sine corrected by nothing. -/
theorem sin_corr {p e : EReal} (he : e = 0) : (Ideal.sin p : EReal) + e * Ideal.cos p = Ideal.sin p := by
  rw [he, zero_mul, add_zero]

/-! ## The frequency and the tables' entries -/

/-- The frequency of a lane: the lanes 2p and 2p+1 turn together. -/
def fr (l : Fin 128) : ℝ := (10000 : ℝ) ^ (-((l.val / 2 : ℕ) : ℝ) / 64)

/-- The sign of a lane: the sine enters an even lane negated. -/
def sg (l : Fin 128) : ℝ := if l.val % 2 = 0 then -1 else 1

def cosT (n : ℝ) (l : Fin 128) : EReal := ((Real.cos (n * fr l) : ℝ) : EReal)
def sinT (n : ℝ) (l : Fin 128) : EReal := ((sg l * Real.sin (n * fr l) : ℝ) : EReal)

theorem sg_sq (l : Fin 128) : sg l * sg l = 1 := by
  unfold sg; split <;> norm_num

/-- Angle addition: from the cosine and the signed sine of two angles, those of their sum. -/
theorem cosT_add (a b : ℝ) (l : Fin 128) : cosT a l * cosT b l - sinT a l * sinT b l = cosT (a + b) l := by
  unfold cosT sinT
  rw [← EReal.coe_mul, ← EReal.coe_mul, ← EReal.coe_sub]
  refine congrArg (fun r : ℝ => (r : EReal)) ?_
  rw [add_mul, Real.cos_add, mul_mul_mul_comm, sg_sq, one_mul]

theorem sinT_add (a b : ℝ) (l : Fin 128) : sinT a l * cosT b l + cosT a l * sinT b l = sinT (a + b) l := by
  unfold cosT sinT
  rw [← EReal.coe_mul, ← EReal.coe_mul, ← EReal.coe_add]
  refine congrArg (fun r : ℝ => (r : EReal)) ?_
  rw [add_mul, Real.sin_add]; ring

/-- The kernel's frequency: a power of two whose exponent carries the logarithm of the base. -/
theorem freq_eq (l : Fin 128) :
    Ideal.exp2 ((((BitVec.ofNat 32 (l.val / 2)).toInt : ℝ) : EReal) * Ideal.ofBits .f32 0xBC800000#32
      * Named.named (F := Ideal) κ "log2_base" (φ := .f32) 0x41549A78#32) = ((fr l : ℝ) : EReal) := by
  have h1 : (BitVec.ofNat 32 (l.val / 2)).toInt = ((l.val / 2 : ℕ) : ℤ) := by
    revert l; decide +kernel
  have h2 : Named.named (F := Ideal) κ "log2_base" (φ := .f32) 0x41549A78#32 = (((Real.log 10000) * (Real.log 2)⁻¹ : ℝ) : EReal) := rfl
  rw [h1, h2, ofBits_m64, ← EReal.coe_mul, ← EReal.coe_mul, Ideal.exp2_coe]
  refine congrArg (fun r : ℝ => (r : EReal)) ?_
  have hl : Real.log 2 ≠ 0 := (Real.log_pos (by norm_num)).ne'
  refine (Real.rpow_eq_pow _ _).trans ?_
  unfold fr
  rw [Real.rpow_def_of_pos (by norm_num), Real.rpow_def_of_pos (by norm_num)]
  rw [Int.cast_natCast]
  generalize ((l.val / 2 : ℕ) : ℝ) = t
  congr 1
  field_simp

theorem half_ofNat {n : ℕ} (h : n < 128) : IntOp.shrui .vector (BitVec.ofNat 32 n) 1#32 = BitVec.ofNat 32 (n / 2) := by
  revert n; decide +kernel

theorem par_ofNat (l : Fin 128) {w : BitVec 32} (hw : w = BitVec.ofNat 32 l.val) :
    (if IntOp.cmpi .eq (IntOp.andi w 1#32) 0#32 = 1#1 then Ideal.ofBits .f32 0xBF800000#32
      else Ideal.ofBits .f32 0x3F800000#32) = ((sg l : ℝ) : EReal) := by
  have : (IntOp.cmpi .eq (IntOp.andi (BitVec.ofNat 32 l.val) 1#32) 0#32 = 1#1) ↔ l.val % 2 = 0 := by
    clear hw w; revert l; decide +kernel
  rw [hw]
  unfold sg
  by_cases h : l.val % 2 = 0
  · rw [if_pos (this.2 h), if_pos h, ofBits_mone]
  · rw [if_neg (fun hh => h (this.1 hh)), if_neg h, ofBits_one]

theorem freq16 (r : Fin 16) (l : Fin 128) : k0_pay3 (F := Ideal) (ix2 r l) = ((fr l : ℝ) : EReal) := by
  rw [← freq_eq l, ← half_ofNat l.isLt]
  unfold k0_pay3
  have hi : iota .tc S16x128 32 [1] iota_S16x128_d1_w32 (ix2 r l) = BitVec.ofNat 32 l.val := iota_single_apply _ _ _ _ _ _
  rw [← hi]
  rfl

theorem rl_f16 : Rl (k0_pay3 (F := Ideal)) := fun j => by
  change (⟨2, ![16, 128]⟩ : Shape).Idx at j
  idx_vars j
  exact ⟨_, freq16 _ _⟩

theorem freq64 (r : Fin 64) (l : Fin 128) : k0_pay42 (F := Ideal) (ix2 r l) = ((fr l : ℝ) : EReal) := by
  rw [← freq_eq l, ← half_ofNat l.isLt]
  unfold k0_pay42
  have hi : iota .tc S64x128 32 [1] iota_S64x128_d1_w32 (ix2 r l) = BitVec.ofNat 32 l.val := iota_single_apply _ _ _ _ _ _
  rw [← hi]
  rfl

theorem rl_f64 : Rl (k0_pay42 (F := Ideal)) := fun j => by
  change (⟨2, ![64, 128]⟩ : Shape).Idx at j
  idx_vars j
  exact ⟨_, freq64 _ _⟩

theorem freq32 (r : Fin 32) (l : Fin 128) : k0_pay71 (F := Ideal) (ix2 r l) = ((fr l : ℝ) : EReal) := by
  rw [← freq_eq l, ← half_ofNat l.isLt]
  unfold k0_pay71
  have hi : iota .tc S32x128 32 [1] iota_S32x128_d1_w32 (ix2 r l) = BitVec.ofNat 32 l.val := iota_single_apply _ _ _ _ _ _
  rw [← hi]
  rfl

theorem rl_f32 : Rl (k0_pay71 (F := Ideal)) := fun j => by
  change (⟨2, ![32, 128]⟩ : Shape).Idx at j
  idx_vars j
  exact ⟨_, freq32 _ _⟩

/-! ## The chains of doublings and halvings keep real entries -/

theorem rl_u16a (h : Rl (k0_pay5 (F := Ideal))) : Rl (k0_pay16 (F := Ideal)) := by
  unfold k0_pay16; (try dsimp only); refine rl_hlv _ rl_half ?_
  unfold k0_pay13; (try dsimp only); refine rl_hlv _ rl_half ?_
  unfold k0_pay11; (try dsimp only); refine rl_hlv _ rl_half ?_
  unfold k0_pay9; (try dsimp only); refine rl_hlv _ rl_half ?_
  unfold k0_pay7; (try dsimp only); refine rl_hlv _ rl_half ?_
  exact h

theorem rl_q16a : Rl (k0_pay15 (F := Ideal)) := by
  unfold k0_pay15; (try dsimp only)
  refine rl_dbl _ ?_
  refine rl_dbl _ ?_
  refine rl_dbl _ ?_
  refine rl_dbl _ ?_
  refine rl_dbl _ ?_
  exact rl_1024

theorem rl_u16 (f u : FVec Ideal S16x128 .f32) (b : IVec S16x128 1) (hu : Rl u) : Rl (k0_pay32 f u b) := by
  unfold k0_pay32; (try dsimp only); refine rl_hlv _ rl_half ?_
  unfold k0_pay30; (try dsimp only); refine rl_hlv _ rl_half ?_
  unfold k0_pay28; (try dsimp only); refine rl_hlv _ rl_half ?_
  unfold k0_pay26; (try dsimp only); refine rl_hlv _ rl_half ?_
  unfold k0_pay24; (try dsimp only); refine rl_hlv _ rl_half ?_
  unfold k0_pay22; (try dsimp only); refine rl_hlv _ rl_half ?_
  unfold k0_pay20; (try dsimp only); refine rl_hlv _ rl_half ?_
  unfold k0_pay18; (try dsimp only); refine rl_hlv _ rl_half ?_
  exact hu

theorem rl_q16 (f q u : FVec Ideal S16x128 .f32) (b : IVec S16x128 1) (hq : Rl q) : Rl (k0_pay34 f q u b) := by
  unfold k0_pay34; (try dsimp only)
  refine rl_dbl _ ?_
  refine rl_dbl _ ?_
  refine rl_dbl _ ?_
  refine rl_dbl _ ?_
  refine rl_dbl _ ?_
  refine rl_dbl _ ?_
  refine rl_dbl _ ?_
  refine rl_dbl _ ?_
  refine rl_dbl _ ?_
  exact hq

theorem rl_u64 (f : FVec Ideal S64x128 .f32) : Rl (k0_pay61 f) := by
  unfold k0_pay61; (try dsimp only); refine rl_hlv _ rl_half ?_
  unfold k0_pay58; (try dsimp only); refine rl_hlv _ rl_half ?_
  unfold k0_pay56; (try dsimp only); refine rl_hlv _ rl_half ?_
  unfold k0_pay54; (try dsimp only); refine rl_hlv _ rl_half ?_
  unfold k0_pay52; (try dsimp only); refine rl_hlv _ rl_half ?_
  unfold k0_pay50; (try dsimp only); refine rl_hlv _ rl_half ?_
  unfold k0_pay48; (try dsimp only); refine rl_hlv _ rl_half ?_
  unfold k0_pay46; (try dsimp only); refine rl_hlv _ rl_half ?_
  exact rl_one

theorem rl_q64 (f : FVec Ideal S64x128 .f32) : Rl (k0_pay60 f (Scalar.ofBits .f32 0x44800000#32)) := by
  unfold k0_pay60; (try dsimp only)
  refine rl_dbl _ ?_
  refine rl_dbl _ ?_
  refine rl_dbl _ ?_
  refine rl_dbl _ ?_
  refine rl_dbl _ ?_
  refine rl_dbl _ ?_
  refine rl_dbl _ ?_
  refine rl_dbl _ ?_
  exact rl_1024

theorem rl_u32a : Rl (k0_pay78 (F := Ideal)) := by
  unfold k0_pay78; (try dsimp only); refine rl_hlv _ rl_half ?_
  unfold k0_pay75; (try dsimp only); refine rl_hlv _ rl_half ?_
  exact rl_one

theorem rl_q32a : Rl (k0_pay77 (F := Ideal)) := by
  unfold k0_pay77; (try dsimp only)
  refine rl_dbl _ ?_
  refine rl_dbl _ ?_
  exact rl_1024

theorem rl_u32 (f u : FVec Ideal S32x128 .f32) (b : IVec S32x128 1) (hu : Rl u) : Rl (k0_pay94 f u b) := by
  unfold k0_pay94; (try dsimp only); refine rl_hlv _ rl_half ?_
  unfold k0_pay92; (try dsimp only); refine rl_hlv _ rl_half ?_
  unfold k0_pay90; (try dsimp only); refine rl_hlv _ rl_half ?_
  unfold k0_pay88; (try dsimp only); refine rl_hlv _ rl_half ?_
  unfold k0_pay86; (try dsimp only); refine rl_hlv _ rl_half ?_
  unfold k0_pay84; (try dsimp only); refine rl_hlv _ rl_half ?_
  unfold k0_pay82; (try dsimp only); refine rl_hlv _ rl_half ?_
  unfold k0_pay80; (try dsimp only); refine rl_hlv _ rl_half ?_
  exact hu

theorem rl_q32 (f q u : FVec Ideal S32x128 .f32) (b : IVec S32x128 1) (hq : Rl q) : Rl (k0_pay96 f q u b) := by
  unfold k0_pay96; (try dsimp only)
  refine rl_dbl _ ?_
  refine rl_dbl _ ?_
  refine rl_dbl _ ?_
  refine rl_dbl _ ?_
  refine rl_dbl _ ?_
  refine rl_dbl _ ?_
  refine rl_dbl _ ?_
  refine rl_dbl _ ?_
  refine rl_dbl _ ?_
  exact hq

theorem err16 {n f p q u : FVec Ideal S16x128 .f32} {h : FVec Ideal S16x128 .f32} {b : IVec S16x128 1} (hn : Rl n) (hf : Rl f) (hp : p = mulf n f)
    (hq : Rl q) (hu : Rl u) (hh : Rl h) (j : S16x128.Idx) : k0_pay36 n f p u b q h j = (0 : EReal) := by
  subst hp
  unfold k0_pay36; (try dsimp only)
  refine err_eq hn hf (rl_mul (rl_floor (rl_mul hf ?_)) (rl_mul ?_ rl_r1024)) j
  · exact hq
  · refine rl_hlv _ hh ?_
    exact hu

theorem err64 {n f p q u : FVec Ideal S64x128 .f32} {b : IVec S64x128 1} (hn : Rl n) (hf : Rl f) (hp : p = mulf n f)
    (hq : Rl q) (hu : Rl u)  (j : S64x128.Idx) : k0_pay63 n f p q u b j = (0 : EReal) := by
  subst hp
  unfold k0_pay63; (try dsimp only)
  refine err_eq hn hf (rl_mul (rl_floor (rl_mul hf ?_)) (rl_mul ?_ rl_r1024)) j
  · refine rl_dbl _ ?_
    refine rl_dbl _ ?_
    refine rl_dbl _ ?_
    refine rl_dbl _ ?_
    refine rl_dbl _ ?_
    refine rl_dbl _ ?_
    exact hq
  · refine rl_hlv _ rl_half ?_
    refine rl_hlv _ rl_half ?_
    refine rl_hlv _ rl_half ?_
    refine rl_hlv _ rl_half ?_
    refine rl_hlv _ rl_half ?_
    refine rl_hlv _ rl_half ?_
    exact hu

theorem err32 {n f p q u : FVec Ideal S32x128 .f32} {h : FVec Ideal S32x128 .f32} {b : IVec S32x128 1} (hn : Rl n) (hf : Rl f) (hp : p = mulf n f)
    (hq : Rl q) (hu : Rl u) (hh : Rl h) (j : S32x128.Idx) : k0_pay98 n f p u b q h j = (0 : EReal) := by
  subst hp
  unfold k0_pay98; (try dsimp only)
  refine err_eq hn hf (rl_mul (rl_floor (rl_mul hf ?_)) (rl_mul ?_ rl_r1024)) j
  · refine rl_dbl _ ?_
    refine rl_dbl _ ?_
    refine rl_dbl _ ?_
    exact hq
  · refine rl_hlv _ rl_half ?_
    refine rl_hlv _ rl_half ?_
    refine rl_hlv _ rl_half ?_
    refine rl_hlv _ hh ?_
    exact hu

/-! ## The tables as stored -/

theorem up_lt (r : Fin 9) : r.val < 16 := by omega
/-- A batch entry's row among the 16 of the offset tables. -/
def up (r : Fin 9) : Fin 16 := ⟨r.val, up_lt r⟩

/-- The nine offsets, one per row; the rows past them hold nothing that is read. -/
theorem n16 (w : Fin 9 → BitVec 32) (r : Fin 9) (l : Fin 128) :
    k0_pay2 (F := Ideal) (iota .tc S16x128 32 [0] iota_S16x128_d0_w32) (k0_pay1 (F := Ideal) (w 0) (w 1) (w 2) (w 3) (w 4) (w 5) (w 6) (w 7)) 8#32 (w 8)
      (ix2 (up r) l) = (((w r).toInt : ℝ) : EReal) := by
  have hi : iota .tc S16x128 32 [0] iota_S16x128_d0_w32 (ix2 (up r) l) = BitVec.ofNat 32 r.val := iota_single_apply _ _ _ _ _ _
  have hv : ∀ (b x : BitVec 32) (u : IVec S16x128 32),
      select (cmpi .eq (iota .tc S16x128 32 [0] iota_S16x128_d0_w32) (broadcast S16x128 b)) (broadcast S16x128 x) u (ix2 (up r) l)
        = if BitVec.ofNat 32 r.val = b then x else u (ix2 (up r) l) := by
    intro b x u
    show (if IntOp.cmpi .eq (iota .tc S16x128 32 [0] iota_S16x128_d0_w32 (ix2 (up r) l)) b = 1#1 then x else _) = _
    rw [hi]
    by_cases h : BitVec.ofNat 32 r.val = b
    · rw [if_pos h, if_pos]; subst h; simp [IntOp.cmpi]
    · rw [if_neg h, if_neg]
      intro hc
      rw [show IntOp.cmpi .eq (BitVec.ofNat 32 r.val) b = BitVec.ofBool (BitVec.ofNat 32 r.val == b) from rfl, beq_false_of_ne h] at hc
      exact absurd hc (by decide)
  unfold k0_pay2 k0_pay1
  show (((select _ _ _ (ix2 (up r) l) : BitVec 32).toInt : ℝ) : EReal) = _
  refine congrArg (fun b : BitVec 32 => ((b.toInt : ℝ) : EReal)) ?_
  dsimp only
  simp only [hv]
  fin_cases r <;> rfl

theorem rl_n16 (v : IVec S16x128 32) (w : IVec S16x128 32) (b : BitVec 32) (x : BitVec 32) : Rl (k0_pay2 (F := Ideal) v w b x) := fun j => by
  unfold k0_pay2
  exact ⟨_, rfl⟩

theorem n64 (r : Fin 64) (l : Fin 128) : k0_pay41 (F := Ideal) (ix2 r l) = ((r.val : ℝ) : EReal) := by
  unfold k0_pay41
  have hi : iota .tc S64x128 32 [0] iota_S64x128_d0_w32 (ix2 r l) = BitVec.ofNat 32 r.val := iota_single_apply _ _ _ _ _ _
  show (((iota .tc S64x128 32 [0] iota_S64x128_d0_w32 (ix2 r l)).toInt : ℝ) : EReal) = _
  rw [hi]
  rw [show (BitVec.ofNat 32 r.val).toInt = (r.val : ℤ) by clear hi; revert r; decide +kernel]; norm_num

theorem rl_n64 : Rl (k0_pay41 (F := Ideal)) := fun j => by
  unfold k0_pay41
  exact ⟨_, rfl⟩

theorem n32 (r : Fin 32) (l : Fin 128) : k0_pay70 (F := Ideal) (ix2 r l) = (((64 * r.val : ℕ) : ℝ) : EReal) := by
  unfold k0_pay70
  have hi : iota .tc S32x128 32 [0] iota_S32x128_d0_w32 (ix2 r l) = BitVec.ofNat 32 r.val := iota_single_apply _ _ _ _ _ _
  show (((IntOp.muli (iota .tc S32x128 32 [0] iota_S32x128_d0_w32 (ix2 r l)) 64#32).toInt : ℝ) : EReal) = _
  rw [hi]
  rw [show (IntOp.muli (BitVec.ofNat 32 r.val) 64#32).toInt = ((64 * r.val : ℕ) : ℤ) by clear hi; revert r; decide +kernel]; norm_num

theorem rl_n32 : Rl (k0_pay70 (F := Ideal)) := fun j => by
  unfold k0_pay70
  exact ⟨_, rfl⟩

theorem cos_at {n : ℝ} {l : Fin 128} {x y : EReal} (hx : x = (n : EReal)) (hy : y = ((fr l : ℝ) : EReal)) : Ideal.cos (x * y) = cosT n l := by
  rw [hx, hy, ← EReal.coe_mul, Ideal.cos_coe]; rfl

theorem sin_at {n : ℝ} {l : Fin 128} {x y z : EReal} (hx : x = (n : EReal)) (hy : y = ((fr l : ℝ) : EReal)) (hz : z = ((sg l : ℝ) : EReal)) :
    Ideal.sin (x * y) * z = sinT n l := by
  rw [hx, hy, hz, ← EReal.coe_mul, Ideal.sin_coe, mul_comm, ← EReal.coe_mul]; rfl

theorem c16 {n p q u h : FVec Ideal S16x128 .f32} {b : IVec S16x128 1} (hn : Rl n) (hp : p = mulf n (k0_pay3 (F := Ideal)))
    (hq : Rl q) (hu : Rl u) (hh : Rl h) {r : Fin 16} {l : Fin 128} {x : ℝ} (hx : n (ix2 r l) = (x : EReal)) :
    k0_pay39 n (k0_pay3 (F := Ideal)) p u b q h (ix2 r l) = cosT x l := by
  have he := err16 (b := b) hn rl_f16 hp hq hu hh (ix2 r l)
  unfold k0_pay39 k0_pay38 k0_pay37; (try dsimp only)
  rw [shapeCast_self]
  refine (cos_corr (p := p (ix2 r l)) he).trans ?_
  subst hp
  exact cos_at hx (freq16 r l)

theorem s16 {n p q u h : FVec Ideal S16x128 .f32} {b : IVec S16x128 1} (hn : Rl n) (hp : p = mulf n (k0_pay3 (F := Ideal)))
    (hq : Rl q) (hu : Rl u) (hh : Rl h) {r : Fin 16} {l : Fin 128} {x : ℝ} (hx : n (ix2 r l) = (x : EReal)) :
    k0_pay40 n (k0_pay3 (F := Ideal)) p u b q h (ix2 r l) = sinT x l := by
  have he := err16 (b := b) hn rl_f16 hp hq hu hh (ix2 r l)
  unfold k0_pay40 k0_pay38 k0_pay37; (try dsimp only)
  rw [shapeCast_self]
  refine Eq.trans (congrArg (· * _) (sin_corr (p := p (ix2 r l)) he)) ?_
  subst hp
  exact sin_at hx (freq16 r l) (par_ofNat l (iota_single_apply _ _ _ _ _ _))

theorem c64 {n p q u : FVec Ideal S64x128 .f32} {b : IVec S64x128 1} (hn : Rl n) (hp : p = mulf n (k0_pay42 (F := Ideal)))
    (hq : Rl q) (hu : Rl u) {r : Fin 64} {l : Fin 128} {x : ℝ} (hx : n (ix2 r l) = (x : EReal)) :
    k0_pay68 (k0_pay66 n (k0_pay42 (F := Ideal)) p q u b) (ix2 r l) = cosT x l := by
  have he := err64 (b := b) hn rl_f64 hp hq hu (ix2 r l)
  unfold k0_pay68 k0_pay66 k0_pay64 k0_pay65; (try dsimp only)
  rw [shapeCast_self]
  refine (cos_corr (p := p (ix2 r l)) he).trans ?_
  subst hp
  exact cos_at hx (freq64 r l)

theorem s64 {n p q u : FVec Ideal S64x128 .f32} {b : IVec S64x128 1} (hn : Rl n) (hp : p = mulf n (k0_pay42 (F := Ideal)))
    (hq : Rl q) (hu : Rl u) {r : Fin 64} {l : Fin 128} {x : ℝ} (hx : n (ix2 r l) = (x : EReal)) :
    k0_pay69 (k0_pay67 n (k0_pay42 (F := Ideal)) p q u b) (iota .tc S64x128 32 [1] iota_S64x128_d1_w32) 1#32 (ix2 r l) = sinT x l := by
  have he := err64 (b := b) hn rl_f64 hp hq hu (ix2 r l)
  unfold k0_pay69 k0_pay67 k0_pay64 k0_pay65; (try dsimp only)
  rw [shapeCast_self]
  refine Eq.trans (congrArg (· * _) (sin_corr (p := p (ix2 r l)) he)) ?_
  subst hp
  exact sin_at hx (freq64 r l) (par_ofNat l (iota_single_apply _ _ _ _ _ _))

theorem c32 {n p q u h : FVec Ideal S32x128 .f32} {b : IVec S32x128 1} (hn : Rl n) (hp : p = mulf n (k0_pay71 (F := Ideal)))
    (hq : Rl q) (hu : Rl u) (hh : Rl h) {r : Fin 32} {l : Fin 128} {x : ℝ} (hx : n (ix2 r l) = (x : EReal)) :
    k0_pay101 n (k0_pay71 (F := Ideal)) p u b q h (ix2 r l) = cosT x l := by
  have he := err32 (b := b) hn rl_f32 hp hq hu hh (ix2 r l)
  unfold k0_pay101 k0_pay99 k0_pay100; (try dsimp only)
  refine (cos_corr (p := p (ix2 r l)) he).trans ?_
  subst hp
  exact cos_at hx (freq32 r l)

theorem s32 {n p q u h : FVec Ideal S32x128 .f32} {b : IVec S32x128 1} (hn : Rl n) (hp : p = mulf n (k0_pay71 (F := Ideal)))
    (hq : Rl q) (hu : Rl u) (hh : Rl h) {r : Fin 32} {l : Fin 128} {x : ℝ} (hx : n (ix2 r l) = (x : EReal)) :
    k0_pay102 n (k0_pay71 (F := Ideal)) p u b q h (ix2 r l) = sinT x l := by
  have he := err32 (b := b) hn rl_f32 hp hq hu hh (ix2 r l)
  unfold k0_pay102 k0_pay99 k0_pay100; (try dsimp only)
  refine Eq.trans (congrArg (· * _) (sin_corr (p := p (ix2 r l)) he)) ?_
  subst hp
  exact sin_at hx (freq32 r l) (par_ofNat l (iota_single_apply _ _ _ _ _ _))

end
end Cert.Rope
end
-- ==== Proof.Block.lean ====
/-
  The values of one grid point: the maxima over a block, the tables of an offset, and the contents of the four
  result windows as functions of the blocks and the offset.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import proofs.«01_k».proof.Proof.TLoops
public import proofs.«01_k».proof.Proof.Trig

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

/-! ## The block's values as functions of the block and of the position of its first row -/

/-- The largest absolute value of a head, over the positions and the lanes. -/
def amax (y : Fin 2048 → Fin 8 → Fin 128 → EReal) (h : Fin 8) : EReal :=
  Finset.univ.sup fun pl : Fin 2048 × Fin 128 => ab (y pl.1 h pl.2)

theorem amax_le (y : Fin 2048 → Fin 8 → Fin 128 → EReal) (h : Fin 8) (b : EReal) : amax y h ≤ b ↔ ∀ p l, ab (y p h l) ≤ b := by
  unfold amax
  rw [Finset.sup_le_iff]
  exact ⟨fun hh p l => hh (p, l) (Finset.mem_univ _), fun hh pl _ => hh pl.1 pl.2⟩

theorem ab_nonneg (x : EReal) : 0 ≤ ab x := by
  unfold ab
  rcases le_total 0 x with h | h
  · exact le_max_of_le_left h
  · exact le_max_of_le_right (EReal.neg_nonneg.2 h)

theorem amax_nonneg (y : Fin 2048 → Fin 8 → Fin 128 → EReal) (h : Fin 8) : 0 ≤ amax y h :=
  le_trans (ab_nonneg (y 0 h 0)) ((amax_le y h _).1 le_rfl 0 0)

/-- The tables of a block: the angles of the positions counted from the block's offset. -/
def tabC (n : ℝ) : S2048x128.Idx → EReal := fun j => cosT (n + ((j 0).val : ℝ)) (j 1)
def tabS (n : ℝ) : S2048x128.Idx → EReal := fun j => sinT (n + ((j 0).val : ℝ)) (j 1)

theorem tabC_ix2 (n : ℝ) (p : Fin 2048) (l : Fin 128) : tabC n (ix2 p l) = cosT (n + (p.val : ℝ)) l := rfl
theorem tabS_ix2 (n : ℝ) (p : Fin 2048) (l : Fin 128) : tabS n (ix2 p l) = sinT (n + (p.val : ℝ)) l := rfl

/-- The tables of position 0 and those of an offset make the offset's tables. -/
theorem sumC_tab (n : ℝ) (oc os : Fin 128 → EReal) (hc : ∀ l, oc l = cosT n l) (hs : ∀ l, os l = sinT n l) :
    sumC (tabC 0) (tabS 0) oc os = tabC n := by
  funext j
  change (⟨2, ![2048, 128]⟩ : Shape).Idx at j
  idx_vars j
  rw [sumC_ix2, hc, hs, tabC_ix2, tabC_ix2, tabS_ix2, zero_add, cosT_add, add_comm]

theorem sumS_tab (n : ℝ) (oc os : Fin 128 → EReal) (hc : ∀ l, oc l = cosT n l) (hs : ∀ l, os l = sinT n l) :
    sumS (tabC 0) (tabS 0) oc os = tabS n := by
  funext j
  change (⟨2, ![2048, 128]⟩ : Shape).Idx at j
  idx_vars j
  rw [sumS_ix2, hc, hs, tabC_ix2, tabS_ix2, tabS_ix2, zero_add, sinT_add, add_comm]

/-- The lanes whose lowest bit is flipped: the other lane of each pair. -/
theorem v10_eq (h : Fin 8) (l : Fin 128) : k0_pay425 (ix2 h l) = BitVec.ofNat 32 (swapLane l).val := by
  unfold k0_pay425
  have hi : iota .tc S8x128 32 [1] iota_S8x128_d1_w32 (ix2 h l) = BitVec.ofNat 32 l.val := iota_single_apply _ _ _ _ _ _
  show IntOp.xori (iota .tc S8x128 32 [1] iota_S8x128_d1_w32 (ix2 h l)) 1#32 = _
  rw [hi]
  clear hi
  revert l; decide +kernel

theorem off1_eq (i : grid0.Coords) : k0_off1 i = ![(i 0).val, 0] := by
  have h9 : (i 0).val < 9 := (i 0).isLt
  have : ∀ t : Fin 9, (Scalar.indexCast (BitVec.ofNat 32 t.val) : Index).toNat = t.val := by decide +kernel
  unfold k0_off1
  dsimp only
  rw [this ⟨(i 0).val, h9⟩]

theorem ld_off (x : S16x128.Idx → EReal) {off : Fin 2 → Nat} {k : ℕ} (hk : k < 9) (ho : off = ![k, 0])
    (inb : ∀ a, off a + ![1, 128] a ≤ S16x128.size a) (l : Fin 128) :
    x ((Rect.unit (s := S16x128) off ![1, 128] inb).toLoadRect.idx (ix2 0 l)) = x (ix2 ⟨k, by omega⟩ l) := by
  subst ho
  pointwise

theorem ofBits_zero16 : Ideal.ofBits .bf16 0x0000#16 = 0 := by
  simp [Ideal.ofBits, Ideal.ieee]

section
variable (X : BufTy.Contents (Elt Ideal) arg3.view.ty) (x : S256x8x8x128.Idx → EReal)

/-- The maxima of V's block, per head: over the rows of both parities and the lanes. -/
theorem vM_eq (hx : arg3.view.read (Elt Ideal) X = x) (h : Fin 8) (l : Fin 128) :
    k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2 (ix2 h l)
      = mOf (amax (at3 x) h) := by
  rw [vM_apply]
  refine congrArg mOf (eq_of_forall_ge_iff fun b => ?_)
  rw [Finset.sup_le_iff, amax_le]
  have hz : ∀ a l, k0_pay426 (F := Ideal) (ix2 a l) = 0 := fun a l => by
    unfold k0_pay426; exact ofBits_zero16
  have h0 := fun l' => t2_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X x hx (k0_pay426 (F := Ideal), k0_pay426) h l' 0 b ⟨2 * h.val, by omega⟩ rfl
  have h1 := fun l' => t2_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X x hx (k0_pay426 (F := Ideal), k0_pay426) h l' 1 b ⟨2 * h.val + 1, by omega⟩ rfl
  constructor
  · intro hh p l'
    have hm := max_le_iff.1 (hh l' (Finset.mem_univ _))
    rcases Nat.mod_two_eq_zero_or_one p.val with hp | hp
    · exact ((h0 l').1 hm.1).2 p hp
    · exact ((h1 l').1 hm.2).2 p hp
  · intro hh l' _
    have hb : (0 : EReal) ≤ b := le_trans (ab_nonneg (at3 x 0 h 0)) (hh 0 0)
    refine max_le_iff.2 ⟨(h0 l').2 ⟨?_, fun p _ => hh p l'⟩, (h1 l').2 ⟨?_, fun p _ => hh p l'⟩⟩
    · refine max_le ?_ ?_ <;> (show k0_pay426 (F := Ideal) (ix2 ⟨2 * h.val, by omega⟩ l') ≤ b; rw [hz]; exact hb)
    · refine max_le ?_ ?_ <;> (show k0_pay426 (F := Ideal) (ix2 ⟨2 * h.val + 1, by omega⟩ l') ≤ b; rw [hz]; exact hb)
end

section
variable (v10 : IVec S8x128 32) (v28 : FVec Ideal S8x128 .f32) (v78 v80 v82 : IVec S8x128 32) (X : BufTy.Contents (Elt Ideal) arg2.view.ty)
    (XC : BufTy.Contents (Elt Ideal) arg14.view.ty) (XS : BufTy.Contents (Elt Ideal) arg15.view.ty)
    (x : S256x8x8x128.Idx → EReal) (tc ts : S2048x128.Idx → EReal)

/-- The maxima of K's rotated block, per head. -/
theorem kM_eq (hx : arg2.view.read (Elt Ideal) X = x) (hc : arg14.view.read (Elt Ideal) XC = tc) (hs : arg15.view.read (Elt Ideal) XS = ts)
    (h : Fin 8) (l : Fin 128) :
    k0_pay441 (F := Ideal) (k0_pay440 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.1
      (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.2) (ix2 h l)
      = mOf (amax (rot x tc ts) h) := by
  rw [kM_apply]
  refine congrArg mOf (eq_of_forall_ge_iff fun b => ?_)
  rw [Finset.sup_le_iff, amax_le]
  have hz : ∀ a l, k0_pay437 (F := Ideal) (ix2 a l) = 0 := fun a l => by
    unfold k0_pay437; exact (ofBits_zero.trans EReal.coe_zero)
  have h0 := fun l' => t4_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS x hx tc ts hc hs v10_eq (k0_pay437 (F := Ideal), k0_pay437 (F := Ideal)) h l' b
  constructor
  · intro hh p l'
    exact ((h0 l').1 (hh l' (Finset.mem_univ _))).2 p
  · intro hh l' _
    have hb : (0 : EReal) ≤ b := le_trans (ab_nonneg (rot x tc ts 0 h 0)) (hh 0 0)
    refine (h0 l').2 ⟨?_, fun p => hh p l'⟩
    refine max_le ?_ ?_ <;> (show k0_pay437 (F := Ideal) (ix2 h l') ≤ b; rw [hz]; exact hb)
end

/-! ## What the body leaves in the four result windows -/

/-- The codes and the scales of a block of K at an offset, and of a block of V. -/
def kqOf (x : S256x8x8x128.Idx → EReal) (n : ℝ) : S1x2048x8x128.Idx → EReal :=
  codes (rot x (tabC n) (tabS n)) fun h => kInv (mOf (amax (rot x (tabC n) (tabS n)) h))
def ksOf (x : S256x8x8x128.Idx → EReal) (n : ℝ) : S1x8x128.Idx → EReal :=
  fun j => kScale (mOf (amax (rot x (tabC n) (tabS n)) (j 1)))
def vqOf (x : S256x8x8x128.Idx → EReal) : S1x2048x8x128.Idx → EReal := codes (at3 x) fun h => kInv (mOf (amax (at3 x) h))
def vsOf (x : S256x8x8x128.Idx → EReal) : S1x8x128.Idx → EReal := fun j => kScale (mOf (amax (at3 x) (j 1)))

end
end Cert.Rope
end
-- ==== Proof.BodyVals.lean ====
/-
  What one run of the body leaves in its windows, from what the tables hold.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import proofs.«01_k».proof.Proof.Block

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

theorem row_lt (i : grid0.Coords) : (i 0).val < 16 := by have : (i 0).val < 9 := (i 0).isLt; omega
/-- The row of the offset tables that belongs to a point. -/
def rowOf (i : grid0.Coords) : Fin 16 := ⟨(i 0).val, row_lt i⟩

/-! ## What one run of the body leaves in its windows, from what the tables hold -/

section
variable (F8 : BufTy.Contents (Elt Ideal) arg8.view.ty) (F9 : BufTy.Contents (Elt Ideal) arg9.view.ty) (F10 : BufTy.Contents (Elt Ideal) arg10.view.ty) (F11 : BufTy.Contents (Elt Ideal) arg11.view.ty)
  (n : ℝ) (h10 : arg10.view.read (Elt Ideal) F10 = tabC 0) (h11 : arg11.view.read (Elt Ideal) F11 = tabS 0)
  (h8 : ∀ l, arg8.view.read (Elt Ideal) F8 (ix2 (rowOf i) l) = cosT n l)
  (h9 : ∀ l, arg9.view.read (Elt Ideal) F9 (ix2 (rowOf i) l) = sinT n l)
  (inb8 inb9 : ∀ a, k0_off1 i a + S1x128.size a ≤ S16x128.size a)

include h10 h11 h8 h9 in
theorem val_cos (f14 : BufTy.Contents (Elt Ideal) arg14.view.ty) :
    arg14.view.read (Elt Ideal) (arg14.view.writes (Elt Ideal) f14 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg8.view.readAt (Elt Ideal) (Rect.unit (s := S16x128) (k0_off1 i) S1x128.size inb8).toLoadRect F8) (arg9.view.readAt (Elt Ideal) (Rect.unit (s := S16x128) (k0_off1 i) S1x128.size inb9).toLoadRect F9) F10 F11 k0_t1_loop.trips).1) = tabC n := by
  rw [t1_read_c 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ F10 F11 (tabC 0) (tabS 0) h10 h11]
  refine sumC_tab n _ _ (fun l => ?_) (fun l => ?_)
  · rw [View.readAt_apply]
    exact (ld_off _ (i 0).isLt (off1_eq i) inb8 l).trans (h8 l)
  · rw [View.readAt_apply]
    exact (ld_off _ (i 0).isLt (off1_eq i) inb9 l).trans (h9 l)

include h10 h11 h8 h9 in
theorem val_sin (f15 : BufTy.Contents (Elt Ideal) arg15.view.ty) :
    arg15.view.read (Elt Ideal) (arg15.view.writes (Elt Ideal) f15 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (arg8.view.readAt (Elt Ideal) (Rect.unit (s := S16x128) (k0_off1 i) S1x128.size inb8).toLoadRect F8) (arg9.view.readAt (Elt Ideal) (Rect.unit (s := S16x128) (k0_off1 i) S1x128.size inb9).toLoadRect F9) F10 F11 k0_t1_loop.trips).2) = tabS n := by
  rw [t1_read_s 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ F10 F11 (tabC 0) (tabS 0) h10 h11]
  refine sumS_tab n _ _ (fun l => ?_) (fun l => ?_)
  · rw [View.readAt_apply]
    exact (ld_off _ (i 0).isLt (off1_eq i) inb8 l).trans (h8 l)
  · rw [View.readAt_apply]
    exact (ld_off _ (i 0).isLt (off1_eq i) inb9 l).trans (h9 l)
end

section
variable (X : BufTy.Contents (Elt Ideal) arg3.view.ty) (x : S256x8x8x128.Idx → EReal) (hx : arg3.view.read (Elt Ideal) X = x)

include hx in
theorem val_vscale : k0_pay434 (F := Ideal) (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay430 (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay429 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2)) (k0_pay431 (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay429 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2)) (k0_pay432 (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay429 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2)) = vsOf x := by
  funext j
  change (⟨3, ![1, 8, 128]⟩ : Shape).Idx at j
  idx_vars j
  exact (vScale_apply _ _ _ _ _).trans (congrArg kScale (vM_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X x hx _ _))

include hx in
theorem val_vcodes (f5 : BufTy.Contents (Elt Ideal) arg5.view.ty) :
    arg5.view.read (Elt Ideal) (arg5.view.writes (Elt Ideal) f5 (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay430 (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay429 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2)) (k0_pay431 (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay429 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2)) (k0_pay432 (k0_pay428 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2) (k0_pay429 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).1 (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X (k0_pay426, k0_pay426) k0_t2_loop.trips).2)) X k0_t3_loop.trips)) = vqOf x :=
  t3_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ X x hx (fun h => kInv (mOf (amax (at3 x) h)))
    (fun a l => (vInv_apply _ _ a l).trans (congrArg kInv (vM_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X x hx _ _))) f5
end

section
variable (v28 : FVec Ideal S8x128 .f32) (v78 v80 v82 : IVec S8x128 32) (X : BufTy.Contents (Elt Ideal) arg2.view.ty)
  (XC : BufTy.Contents (Elt Ideal) arg14.view.ty) (XS : BufTy.Contents (Elt Ideal) arg15.view.ty) (n : ℝ)
  (x : S256x8x8x128.Idx → EReal) (hx : arg2.view.read (Elt Ideal) X = x) (hc : arg14.view.read (Elt Ideal) XC = tabC n) (hs : arg15.view.read (Elt Ideal) XS = tabS n)

include hx hc hs in
theorem val_kscale : k0_pay444 (F := Ideal) (k0_pay441 (k0_pay440 (F := Ideal) (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.1 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.2)) (k0_pay442 (k0_pay440 (F := Ideal) (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.1 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.2)) 2#32 = ksOf x n := by
  funext j
  change (⟨3, ![1, 8, 128]⟩ : Shape).Idx at j
  idx_vars j
  exact (kScale_apply _ _ _ _).trans (congrArg kScale (kM_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 v78 v80 v82 X XC XS x (tabC n) (tabS n) hx hc hs _ _))

include hx hc hs in
theorem val_kcodes (f16 : BufTy.Contents (Elt Ideal) arg16.view.ty) (f4 : BufTy.Contents (Elt Ideal) arg4.view.ty) :
    arg4.view.read (Elt Ideal) (arg4.view.writes (Elt Ideal) f4 (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay441 (k0_pay440 (F := Ideal) (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.1 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.2)) (k0_pay442 (k0_pay440 (F := Ideal) (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.1 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).1.2)) 2#32
      (arg16.view.writes (Elt Ideal) f16 (st_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS (k0_pay437, k0_pay437) k0_t4_loop.trips).2) k0_t5_loop.trips)) = kqOf x n :=
  t5_read 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ (rot x (tabC n) (tabS n)) (t4_list 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_pay425 v28 v78 v80 v82 X XC XS x hx (tabC n) (tabS n) hc hs v10_eq (k0_pay437, k0_pay437) f16)
    (fun h => kInv (mOf (amax (rot x (tabC n) (tabS n)) h)))
    (fun h l => congrArg kInv (kM_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v28 v78 v80 v82 X XC XS x (tabC n) (tabS n) hx hc hs h l)) f4
end

end
end Cert.Rope
end
-- ==== Proof.Stripes.lean ====
/-
  The tables of position 0 as the first grid point stores them, and the loads of the offsets.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pointwise
public import Idealize.ShloMosaic.Lib.Tactic
public import Idealize.ShloMosaic.Lib.WritesUnit
public import proofs.«01_k».proof.Proof.Block

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open Idealize.SL.Sem

section
variable (𝒱 : Variants) (c : Dev nD) (bd : Option 𝒱.V) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)

/-! ## The tables of position 0: 32 stripes of 64 rows, each the sum of two angles -/

/-- The coarse table holds the angles of the multiples of 64, the fine one those of 0 … 63. -/
def Fine (C S : FVec Ideal S32x128 .f32) (fc fs : FVec Ideal S64x128 .f32) : Prop :=
  (∀ r l, C (ix2 r l) = cosT (64 * r.val : ℕ) l) ∧ (∀ r l, S (ix2 r l) = sinT (64 * r.val : ℕ) l)
    ∧ (∀ r l, fc (ix2 r l) = cosT (r.val : ℕ) l) ∧ (∀ r l, fs (ix2 r l) = sinT (r.val : ℕ) l)

theorem bc_row (C : FVec Ideal S32x128 .f32) (o : ℕ) (ho : o < 32) (hsl : Shape.Slices S32x128 ![o, 0] S1x128) (hb : S1x128.Broadcasts S64x128) (r : Fin 64) (l : Fin 128) :
    broadcastTo S64x128 (extractStridedSlice S1x128 ![o, 0] C hsl) hb (ix2 r l) = C (ix2 ⟨o, ho⟩ l) := by
  pointwise

theorem angle_c {r o : ℕ} {l : Fin 128} {a b x y : EReal} (ha : a = cosT (r : ℕ) l) (hb : b = sinT (r : ℕ) l)
    (hx : x = cosT (64 * o : ℕ) l) (hy : y = sinT (64 * o : ℕ) l) : a * x - b * y = cosT ((r : ℝ) + ((64 * o : ℕ) : ℝ)) l := by
  rw [ha, hb, hx, hy, cosT_add]

theorem angle_s {r o : ℕ} {l : Fin 128} {a b x y : EReal} (ha : a = cosT (r : ℕ) l) (hb : b = sinT (r : ℕ) l)
    (hx : x = cosT (64 * o : ℕ) l) (hy : y = sinT (64 * o : ℕ) l) : b * x + a * y = sinT ((r : ℝ) + ((64 * o : ℕ) : ℝ)) l := by
  rw [ha, hb, hx, hy, sinT_add]

variable {sp : Space}

theorem tabC_piece {o : ℕ} (ho : o < 32)
    (C S : FVec Ideal S32x128 .f32) (fc fs : FVec Ideal S64x128 .f32) (hf : Fine C S fc fs)
    (hsl : Shape.Slices S32x128 ![o, 0] S1x128) (hb : S1x128.Broadcasts S64x128) (hsc : S64x128.ShapeCasts S64x128) (r : Fin 64) (l : Fin 128) (p : Fin 2048) (hp : p.val = 64 * o + r.val) :
    shapeCast S64x128 (subf (mulf fc (broadcastTo S64x128 (extractStridedSlice S1x128 ![o, 0] C hsl) hb)) (mulf fs (broadcastTo S64x128 (extractStridedSlice S1x128 ![o, 0] S hsl) hb))) hsc (ix2 r l) = tabC 0 (ix2 p l) := by
  rw [shapeCast_self]
  have eC : broadcastTo S64x128 (extractStridedSlice S1x128 ![o, 0] C hsl) hb (ix2 r l) = cosT (64 * o : ℕ) l :=
    (bc_row C o ho hsl hb r l).trans (hf.1 ⟨o, ho⟩ l)
  have eS : broadcastTo S64x128 (extractStridedSlice S1x128 ![o, 0] S hsl) hb (ix2 r l) = sinT (64 * o : ℕ) l :=
    (bc_row S o ho hsl hb r l).trans (hf.2.1 ⟨o, ho⟩ l)
  refine (angle_c (r := r.val) (o := o) (l := l) (hf.2.2.1 r l) (hf.2.2.2 r l) eC eS).trans ?_
  rw [tabC_ix2, hp, zero_add, Nat.cast_add, add_comm]

/-- The stripe of 64 rows from row 64 o: if the rows above it are the table's, so are these. -/
theorem tabC_stripe (v : View sig .tc sp S2048x128 .f32) (f : v.ty.Contents (Elt Ideal)) (o : ℕ) (ho : o < 32)
    (C S : FVec Ideal S32x128 .f32) (fc fs : FVec Ideal S64x128 .f32) (hf : Fine C S fc fs)
    (hsl : Shape.Slices S32x128 ![o, 0] S1x128) (hb : S1x128.Broadcasts S64x128) (hsc : S64x128.ShapeCasts S64x128)
    {off : Fin 2 → ℕ} (hoff : off = ![64 * o, 0]) (inb : ∀ a, off a + S64x128.size a ≤ S2048x128.size a) (L : List (View.Piece (Elt Ideal) S2048x128 .f32))
    (hL : ∀ (p : Fin 2048) (l : Fin 128), p.val < 64 * o → v.read (Elt Ideal) (v.writes (Elt Ideal) f L) (ix2 p l) = tabC 0 (ix2 p l)) :
    ∀ (p : Fin 2048) (l : Fin 128), p.val < 64 * (o + 1) → v.read (Elt Ideal) (v.writes (Elt Ideal) f (⟨Rect.unit (s := S2048x128) off S64x128.size inb,
      shapeCast S64x128 (subf (mulf fc (broadcastTo S64x128 (extractStridedSlice S1x128 ![o, 0] C hsl) hb)) (mulf fs (broadcastTo S64x128 (extractStridedSlice S1x128 ![o, 0] S hsl) hb))) hsc⟩ :: L)) (ix2 p l) = tabC 0 (ix2 p l) := by
  intro p l hy
  by_cases h : p.val < 64 * o
  · rw [View.read_writes_cons_rows_of_not_mem (o := 64 * o) (W := 64) v f inb _ L (ix2 p l) hoff rfl (Or.inl h)]
    exact hL p l h
  · have hr : p.val - 64 * o < 64 := by omega
    have hpr : p.val = 64 * o + (p.val - 64 * o) := by omega
    rw [View.read_writes_cons_rows_of_mem (o := 64 * o) v f inb _ L (ix2 p l) (ix2 (⟨p.val - 64 * o, hr⟩ : Fin 64) l) hoff hpr rfl]
    exact tabC_piece ho C S fc fs hf hsl hb hsc ⟨p.val - 64 * o, hr⟩ l p hpr

theorem tabS_piece {o : ℕ} (ho : o < 32)
    (C S : FVec Ideal S32x128 .f32) (fc fs : FVec Ideal S64x128 .f32) (hf : Fine C S fc fs)
    (hsl : Shape.Slices S32x128 ![o, 0] S1x128) (hb : S1x128.Broadcasts S64x128) (hsc : S64x128.ShapeCasts S64x128) (r : Fin 64) (l : Fin 128) (p : Fin 2048) (hp : p.val = 64 * o + r.val) :
    shapeCast S64x128 (addf (mulf fs (broadcastTo S64x128 (extractStridedSlice S1x128 ![o, 0] C hsl) hb)) (mulf fc (broadcastTo S64x128 (extractStridedSlice S1x128 ![o, 0] S hsl) hb))) hsc (ix2 r l) = tabS 0 (ix2 p l) := by
  rw [shapeCast_self]
  have eC : broadcastTo S64x128 (extractStridedSlice S1x128 ![o, 0] C hsl) hb (ix2 r l) = cosT (64 * o : ℕ) l :=
    (bc_row C o ho hsl hb r l).trans (hf.1 ⟨o, ho⟩ l)
  have eS : broadcastTo S64x128 (extractStridedSlice S1x128 ![o, 0] S hsl) hb (ix2 r l) = sinT (64 * o : ℕ) l :=
    (bc_row S o ho hsl hb r l).trans (hf.2.1 ⟨o, ho⟩ l)
  refine (angle_s (r := r.val) (o := o) (l := l) (hf.2.2.1 r l) (hf.2.2.2 r l) eC eS).trans ?_
  rw [tabS_ix2, hp, zero_add, Nat.cast_add, add_comm]

/-- The stripe of 64 rows from row 64 o: if the rows above it are the table's, so are these. -/
theorem tabS_stripe (v : View sig .tc sp S2048x128 .f32) (f : v.ty.Contents (Elt Ideal)) (o : ℕ) (ho : o < 32)
    (C S : FVec Ideal S32x128 .f32) (fc fs : FVec Ideal S64x128 .f32) (hf : Fine C S fc fs)
    (hsl : Shape.Slices S32x128 ![o, 0] S1x128) (hb : S1x128.Broadcasts S64x128) (hsc : S64x128.ShapeCasts S64x128)
    {off : Fin 2 → ℕ} (hoff : off = ![64 * o, 0]) (inb : ∀ a, off a + S64x128.size a ≤ S2048x128.size a) (L : List (View.Piece (Elt Ideal) S2048x128 .f32))
    (hL : ∀ (p : Fin 2048) (l : Fin 128), p.val < 64 * o → v.read (Elt Ideal) (v.writes (Elt Ideal) f L) (ix2 p l) = tabS 0 (ix2 p l)) :
    ∀ (p : Fin 2048) (l : Fin 128), p.val < 64 * (o + 1) → v.read (Elt Ideal) (v.writes (Elt Ideal) f (⟨Rect.unit (s := S2048x128) off S64x128.size inb,
      shapeCast S64x128 (addf (mulf fs (broadcastTo S64x128 (extractStridedSlice S1x128 ![o, 0] C hsl) hb)) (mulf fc (broadcastTo S64x128 (extractStridedSlice S1x128 ![o, 0] S hsl) hb))) hsc⟩ :: L)) (ix2 p l) = tabS 0 (ix2 p l) := by
  intro p l hy
  by_cases h : p.val < 64 * o
  · rw [View.read_writes_cons_rows_of_not_mem (o := 64 * o) (W := 64) v f inb _ L (ix2 p l) hoff rfl (Or.inl h)]
    exact hL p l h
  · have hr : p.val - 64 * o < 64 := by omega
    have hpr : p.val = 64 * o + (p.val - 64 * o) := by omega
    rw [View.read_writes_cons_rows_of_mem (o := 64 * o) v f inb _ L (ix2 p l) (ix2 (⟨p.val - 64 * o, hr⟩ : Fin 64) l) hoff hpr rfl]
    exact tabS_piece ho C S fc fs hf hsl hb hsc ⟨p.val - 64 * o, hr⟩ l p hpr

/-- A load of one word of the offsets. -/
theorem word_load (v : View sig .tc .smem S9 .i32) (f : v.ty.Contents (Elt Ideal)) {k : ℕ} (hk : k < 9)
    (inb : ∀ a, (![k] : Fin 1 → ℕ) a + S1.size a ≤ S9.size a) (h : 0 < S1.numel) :
    v.readAt (Elt Ideal) (Rect.unit (s := S9) ![k] S1.size inb).toLoadRect f (Shape.Idx.first h) = v.read (Elt Ideal) f (ix1 ⟨k, hk⟩) := by
  rw [View.readAt_apply]
  refine congrArg (v.read (Elt Ideal) f) (funext fun a => ?_)
  fin_cases a
  rfl

end
end Cert.Rope
end
-- ==== Proof.BodyFirst.lean ====
/-
  The body at the first point: the tables and its four results.
-/
module

public import Idealize.ShloMosaic.Lib.VecWindow
public import proofs.«01_k».proof.Proof.KernelIdealBody
public import proofs.«01_k».proof.Proof.BodyVals
public import proofs.«01_k».proof.Proof.Stripes
@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Hand (firstPoint bodySkel body_eq)

/-- The body at the first point: it writes the tables, and the four results are those of the point's blocks. -/
theorem kernelRun_first (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (hb : firstPoint i) (w : S9.Idx → BitVec 32) (xK xV : S256x8x8x128.Idx → EReal) (K : PUnit → sProp (MT nD τ sig Unit (Elt Ideal) ℕ (UR sig nD τ) ℕ)) :
    iprop(owns (c : Thread nD τ) arg1 fullShare w ∗ owns (c : Thread nD τ) arg2 fullShare xK ∗ owns (c : Thread nD τ) arg3 fullShare xV ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare w ∗ owns (c : Thread nD τ) arg2 fullShare xK ∗ owns (c : Thread nD τ) arg3 fullShare xV ∗ owns (c : Thread nD τ) arg4 fullShare (kqOf xK (((w (ix1 (⟨(i 0).val, (i 0).isLt⟩ : Fin 9))).toInt : ℤ) : ℝ)) ∗ owns (c : Thread nD τ) arg5 fullShare (vqOf xV) ∗ owns (c : Thread nD τ) arg6 fullShare (ksOf xK (((w (ix1 (⟨(i 0).val, (i 0).isLt⟩ : Fin 9))).toInt : ℤ) : ℝ)) ∗ owns (c : Thread nD τ) arg7 fullShare (vsOf xV) ∗ (∃ d, iprop(⌜∀ (r : Fin 9) (l : Fin 128), d (ix2 (up r) l) = cosT (((w (ix1 r)).toInt : ℤ) : ℝ) l⌝ ∗ owns (c : Thread nD τ) arg8 fullShare d)) ∗ (∃ d, iprop(⌜∀ (r : Fin 9) (l : Fin 128), d (ix2 (up r) l) = sinT (((w (ix1 r)).toInt : ℤ) : ℝ) l⌝ ∗ owns (c : Thread nD τ) arg9 fullShare d)) ∗ owns (c : Thread nD τ) arg10 fullShare (tabC 0) ∗ owns (c : Thread nD τ) arg11 fullShare (tabS 0) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq]
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  have r538 : Rl kernelRun_first.sl.v538 := rl_hlv _ rl_half rl_u32a
  have r544 : Rl kernelRun_first.sl.v544 := rl_hlv _ rl_half r538
  have r550 : Rl kernelRun_first.sl.v550 := rl_hlv _ rl_half r544
  have r556 : Rl kernelRun_first.sl.v556 := rl_hlv _ rl_half r550
  have r562 : Rl kernelRun_first.sl.v562 := rl_hlv _ rl_half r556
  have r568 : Rl kernelRun_first.sl.v568 := rl_hlv _ rl_half r562
  have r574 : Rl kernelRun_first.sl.v574 := rl_hlv _ rl_half r568
  have r580 : Rl kernelRun_first.sl.v580 := rl_hlv _ rl_half r574
  have r535 : Rl kernelRun_first.sl.v535 := rl_dbl _ rl_q32a
  have r541 : Rl kernelRun_first.sl.v541 := rl_dbl _ r535
  have r547 : Rl kernelRun_first.sl.v547 := rl_dbl _ r541
  have r553 : Rl kernelRun_first.sl.v553 := rl_dbl _ r547
  have r559 : Rl kernelRun_first.sl.v559 := rl_dbl _ r553
  have r565 : Rl kernelRun_first.sl.v565 := rl_dbl _ r559
  have r571 : Rl kernelRun_first.sl.v571 := rl_dbl _ r565
  have r577 : Rl kernelRun_first.sl.v577 := rl_dbl _ r571
  have r583 : Rl kernelRun_first.sl.v583 := rl_dbl _ r577
  have r296 : Rl kernelRun_first.sl.v296 := rl_hlv _ rl_half (rl_u16a rl_one)
  have r302 : Rl kernelRun_first.sl.v302 := rl_hlv _ rl_half r296
  have r308 : Rl kernelRun_first.sl.v308 := rl_hlv _ rl_half r302
  have r314 : Rl kernelRun_first.sl.v314 := rl_hlv _ rl_half r308
  have r320 : Rl kernelRun_first.sl.v320 := rl_hlv _ rl_half r314
  have r326 : Rl kernelRun_first.sl.v326 := rl_hlv _ rl_half r320
  have r332 : Rl kernelRun_first.sl.v332 := rl_hlv _ rl_half r326
  have r338 : Rl kernelRun_first.sl.v338 := rl_hlv _ rl_half r332
  have r293 : Rl kernelRun_first.sl.v293 := rl_dbl _ rl_q16a
  have r299 : Rl kernelRun_first.sl.v299 := rl_dbl _ r293
  have r305 : Rl kernelRun_first.sl.v305 := rl_dbl _ r299
  have r311 : Rl kernelRun_first.sl.v311 := rl_dbl _ r305
  have r317 : Rl kernelRun_first.sl.v317 := rl_dbl _ r311
  have r323 : Rl kernelRun_first.sl.v323 := rl_dbl _ r317
  have r329 : Rl kernelRun_first.sl.v329 := rl_dbl _ r323
  have r335 : Rl kernelRun_first.sl.v335 := rl_dbl _ r329
  have r341 : Rl kernelRun_first.sl.v341 := rl_dbl _ r335
  have r401 : Rl kernelRun_first.sl.v401 := rl_hlv _ rl_half (rl_hlv _ rl_half rl_one)
  have r407 : Rl kernelRun_first.sl.v407 := rl_hlv _ rl_half r401
  have r413 : Rl kernelRun_first.sl.v413 := rl_hlv _ rl_half r407
  have r419 : Rl kernelRun_first.sl.v419 := rl_hlv _ rl_half r413
  have r425 : Rl kernelRun_first.sl.v425 := rl_hlv _ rl_half r419
  have r431 : Rl kernelRun_first.sl.v431 := rl_hlv _ rl_half r425
  have r437 : Rl kernelRun_first.sl.v437 := rl_hlv _ rl_half r431
  have r398 : Rl kernelRun_first.sl.v398 := rl_dbl _ (rl_dbl _ rl_1024)
  have r404 : Rl kernelRun_first.sl.v404 := rl_dbl _ r398
  have r410 : Rl kernelRun_first.sl.v410 := rl_dbl _ r404
  have r416 : Rl kernelRun_first.sl.v416 := rl_dbl _ r410
  have r422 : Rl kernelRun_first.sl.v422 := rl_dbl _ r416
  have r428 : Rl kernelRun_first.sl.v428 := rl_dbl _ r422
  have r434 : Rl kernelRun_first.sl.v434 := rl_dbl _ r428
  have hfine : Fine kernelRun_first.sl.v618 (mulf kernelRun_first.sl.v620 kernelRun_first.sl.v628) (k0_pay68 kernelRun_first.sl.v487) (k0_pay69 kernelRun_first.sl.v489 kernelRun_first.sl.v490 1#32) :=
    ⟨fun r l => c32 (n := k0_pay70) (p := k0_pay72) (q := kernelRun_first.sl.v583) (u := kernelRun_first.sl.v580) (h := broadcast S32x128 (Scalar.ofBits .f32 0x3F000000#32)) (b := cmpf .olt k0_pay71 kernelRun_first.sl.v580) rl_n32 rfl r583 r580 rl_half (n32 r l),
     fun r l => s32 (n := k0_pay70) (p := k0_pay72) (q := kernelRun_first.sl.v583) (u := kernelRun_first.sl.v580) (h := broadcast S32x128 (Scalar.ofBits .f32 0x3F000000#32)) (b := cmpf .olt k0_pay71 kernelRun_first.sl.v580) rl_n32 rfl r583 r580 rl_half (n32 r l),
     fun r l => c64 (n := k0_pay41) (p := k0_pay43) (q := kernelRun_first.sl.v434) (u := kernelRun_first.sl.v437) (b := cmpf .olt k0_pay42 kernelRun_first.sl.v437) rl_n64 rfl r434 r437 (n64 r l),
     fun r l => s64 (n := k0_pay41) (p := k0_pay43) (q := kernelRun_first.sl.v434) (u := kernelRun_first.sl.v437) (b := cmpf .olt k0_pay42 kernelRun_first.sl.v437) rl_n64 rfl r434 r437 (n64 r l)⟩
  have e12 : kernelRun_first.sl.v630 c arg12 = k0_pay68 kernelRun_first.sl.v487 := View.readCov_full _ _ _ _ _
  have e13 : kernelRun_first.sl.v631 c arg13 = k0_pay69 kernelRun_first.sl.v489 kernelRun_first.sl.v490 1#32 := View.readCov_full _ _ _ _ _
  have e12' : kernelRun_first.sl.v1250 c arg12 = k0_pay68 kernelRun_first.sl.v487 := View.readCov_full _ _ _ _ _
  have e13' : kernelRun_first.sl.v1251 c arg13 = k0_pay69 kernelRun_first.sl.v489 kernelRun_first.sl.v490 1#32 := View.readCov_full _ _ _ _ _
  have hf0 : Fine kernelRun_first.sl.v618 (mulf kernelRun_first.sl.v620 kernelRun_first.sl.v628) (kernelRun_first.sl.v630 c arg12) (kernelRun_first.sl.v631 c arg13) := by rw [e12, e13]; exact hfine
  have hf1 : Fine kernelRun_first.sl.v618 (mulf kernelRun_first.sl.v620 kernelRun_first.sl.v628) (kernelRun_first.sl.v1250 c arg12) (kernelRun_first.sl.v1251 c arg13) := by rw [e12', e13']; exact hfine
  have e10 : arg10.view.read (Elt Ideal) (arg10.view.writes (Elt Ideal) arg10.view.junk (kernelRun_first.sl.H10_32 c arg12 arg13)) = tabC 0 := by
    refine funext fun y => ?_
    suffices key : ∀ (p : Fin 2048) (l : Fin 128), p.val < 64 * (31 + 1) → arg10.view.read (Elt Ideal) (arg10.view.writes (Elt Ideal) arg10.view.junk (kernelRun_first.sl.H10_32 c arg12 arg13)) (ix2 p l) = tabC 0 (ix2 p l) by
      change (⟨2, ![2048, 128]⟩ : Shape).Idx at y
      idx_vars y
      exact key _ _ (Fin.isLt _)
    intro p l hp
    delta kernelRun_first.sl.H10_32
    refine tabC_stripe arg10.view _ 31 (by decide) kernelRun_first.sl.v618 (mulf kernelRun_first.sl.v620 kernelRun_first.sl.v628) _ _ hf1 (by decide) (by decide) (by decide) rfl _ _ ?_ p l hp
    clear p l hp; intro p l hp
    refine tabC_stripe arg10.view _ 30 (by decide) kernelRun_first.sl.v618 (mulf kernelRun_first.sl.v620 kernelRun_first.sl.v628) _ _ hf0 (by decide) (by decide) (by decide) rfl _ _ ?_ p l hp
    clear p l hp; intro p l hp
    refine tabC_stripe arg10.view _ 29 (by decide) kernelRun_first.sl.v618 (mulf kernelRun_first.sl.v620 kernelRun_first.sl.v628) _ _ hf0 (by decide) (by decide) (by decide) rfl _ _ ?_ p l hp
    clear p l hp; intro p l hp
    refine tabC_stripe arg10.view _ 28 (by decide) kernelRun_first.sl.v618 (mulf kernelRun_first.sl.v620 kernelRun_first.sl.v628) _ _ hf0 (by decide) (by decide) (by decide) rfl _ _ ?_ p l hp
    clear p l hp; intro p l hp
    refine tabC_stripe arg10.view _ 27 (by decide) kernelRun_first.sl.v618 (mulf kernelRun_first.sl.v620 kernelRun_first.sl.v628) _ _ hf0 (by decide) (by decide) (by decide) rfl _ _ ?_ p l hp
    clear p l hp; intro p l hp
    refine tabC_stripe arg10.view _ 26 (by decide) kernelRun_first.sl.v618 (mulf kernelRun_first.sl.v620 kernelRun_first.sl.v628) _ _ hf0 (by decide) (by decide) (by decide) rfl _ _ ?_ p l hp
    clear p l hp; intro p l hp
    refine tabC_stripe arg10.view _ 25 (by decide) kernelRun_first.sl.v618 (mulf kernelRun_first.sl.v620 kernelRun_first.sl.v628) _ _ hf0 (by decide) (by decide) (by decide) rfl _ _ ?_ p l hp
    clear p l hp; intro p l hp
    refine tabC_stripe arg10.view _ 24 (by decide) kernelRun_first.sl.v618 (mulf kernelRun_first.sl.v620 kernelRun_first.sl.v628) _ _ hf0 (by decide) (by decide) (by decide) rfl _ _ ?_ p l hp
    clear p l hp; intro p l hp
    refine tabC_stripe arg10.view _ 23 (by decide) kernelRun_first.sl.v618 (mulf kernelRun_first.sl.v620 kernelRun_first.sl.v628) _ _ hf0 (by decide) (by decide) (by decide) rfl _ _ ?_ p l hp
    clear p l hp; intro p l hp
    refine tabC_stripe arg10.view _ 22 (by decide) kernelRun_first.sl.v618 (mulf kernelRun_first.sl.v620 kernelRun_first.sl.v628) _ _ hf0 (by decide) (by decide) (by decide) rfl _ _ ?_ p l hp
    clear p l hp; intro p l hp
    refine tabC_stripe arg10.view _ 21 (by decide) kernelRun_first.sl.v618 (mulf kernelRun_first.sl.v620 kernelRun_first.sl.v628) _ _ hf0 (by decide) (by decide) (by decide) rfl _ _ ?_ p l hp
    clear p l hp; intro p l hp
    refine tabC_stripe arg10.view _ 20 (by decide) kernelRun_first.sl.v618 (mulf kernelRun_first.sl.v620 kernelRun_first.sl.v628) _ _ hf0 (by decide) (by decide) (by decide) rfl _ _ ?_ p l hp
    clear p l hp; intro p l hp
    refine tabC_stripe arg10.view _ 19 (by decide) kernelRun_first.sl.v618 (mulf kernelRun_first.sl.v620 kernelRun_first.sl.v628) _ _ hf0 (by decide) (by decide) (by decide) rfl _ _ ?_ p l hp
    clear p l hp; intro p l hp
    refine tabC_stripe arg10.view _ 18 (by decide) kernelRun_first.sl.v618 (mulf kernelRun_first.sl.v620 kernelRun_first.sl.v628) _ _ hf0 (by decide) (by decide) (by decide) rfl _ _ ?_ p l hp
    clear p l hp; intro p l hp
    refine tabC_stripe arg10.view _ 17 (by decide) kernelRun_first.sl.v618 (mulf kernelRun_first.sl.v620 kernelRun_first.sl.v628) _ _ hf0 (by decide) (by decide) (by decide) rfl _ _ ?_ p l hp
    clear p l hp; intro p l hp
    refine tabC_stripe arg10.view _ 16 (by decide) kernelRun_first.sl.v618 (mulf kernelRun_first.sl.v620 kernelRun_first.sl.v628) _ _ hf0 (by decide) (by decide) (by decide) rfl _ _ ?_ p l hp
    clear p l hp; intro p l hp
    refine tabC_stripe arg10.view _ 15 (by decide) kernelRun_first.sl.v618 (mulf kernelRun_first.sl.v620 kernelRun_first.sl.v628) _ _ hf0 (by decide) (by decide) (by decide) rfl _ _ ?_ p l hp
    clear p l hp; intro p l hp
    refine tabC_stripe arg10.view _ 14 (by decide) kernelRun_first.sl.v618 (mulf kernelRun_first.sl.v620 kernelRun_first.sl.v628) _ _ hf0 (by decide) (by decide) (by decide) rfl _ _ ?_ p l hp
    clear p l hp; intro p l hp
    refine tabC_stripe arg10.view _ 13 (by decide) kernelRun_first.sl.v618 (mulf kernelRun_first.sl.v620 kernelRun_first.sl.v628) _ _ hf0 (by decide) (by decide) (by decide) rfl _ _ ?_ p l hp
    clear p l hp; intro p l hp
    refine tabC_stripe arg10.view _ 12 (by decide) kernelRun_first.sl.v618 (mulf kernelRun_first.sl.v620 kernelRun_first.sl.v628) _ _ hf0 (by decide) (by decide) (by decide) rfl _ _ ?_ p l hp
    clear p l hp; intro p l hp
    refine tabC_stripe arg10.view _ 11 (by decide) kernelRun_first.sl.v618 (mulf kernelRun_first.sl.v620 kernelRun_first.sl.v628) _ _ hf0 (by decide) (by decide) (by decide) rfl _ _ ?_ p l hp
    clear p l hp; intro p l hp
    refine tabC_stripe arg10.view _ 10 (by decide) kernelRun_first.sl.v618 (mulf kernelRun_first.sl.v620 kernelRun_first.sl.v628) _ _ hf0 (by decide) (by decide) (by decide) rfl _ _ ?_ p l hp
    clear p l hp; intro p l hp
    refine tabC_stripe arg10.view _ 9 (by decide) kernelRun_first.sl.v618 (mulf kernelRun_first.sl.v620 kernelRun_first.sl.v628) _ _ hf0 (by decide) (by decide) (by decide) rfl _ _ ?_ p l hp
    clear p l hp; intro p l hp
    refine tabC_stripe arg10.view _ 8 (by decide) kernelRun_first.sl.v618 (mulf kernelRun_first.sl.v620 kernelRun_first.sl.v628) _ _ hf0 (by decide) (by decide) (by decide) rfl _ _ ?_ p l hp
    clear p l hp; intro p l hp
    refine tabC_stripe arg10.view _ 7 (by decide) kernelRun_first.sl.v618 (mulf kernelRun_first.sl.v620 kernelRun_first.sl.v628) _ _ hf0 (by decide) (by decide) (by decide) rfl _ _ ?_ p l hp
    clear p l hp; intro p l hp
    refine tabC_stripe arg10.view _ 6 (by decide) kernelRun_first.sl.v618 (mulf kernelRun_first.sl.v620 kernelRun_first.sl.v628) _ _ hf0 (by decide) (by decide) (by decide) rfl _ _ ?_ p l hp
    clear p l hp; intro p l hp
    refine tabC_stripe arg10.view _ 5 (by decide) kernelRun_first.sl.v618 (mulf kernelRun_first.sl.v620 kernelRun_first.sl.v628) _ _ hf0 (by decide) (by decide) (by decide) rfl _ _ ?_ p l hp
    clear p l hp; intro p l hp
    refine tabC_stripe arg10.view _ 4 (by decide) kernelRun_first.sl.v618 (mulf kernelRun_first.sl.v620 kernelRun_first.sl.v628) _ _ hf0 (by decide) (by decide) (by decide) rfl _ _ ?_ p l hp
    clear p l hp; intro p l hp
    refine tabC_stripe arg10.view _ 3 (by decide) kernelRun_first.sl.v618 (mulf kernelRun_first.sl.v620 kernelRun_first.sl.v628) _ _ hf0 (by decide) (by decide) (by decide) rfl _ _ ?_ p l hp
    clear p l hp; intro p l hp
    refine tabC_stripe arg10.view _ 2 (by decide) kernelRun_first.sl.v618 (mulf kernelRun_first.sl.v620 kernelRun_first.sl.v628) _ _ hf0 (by decide) (by decide) (by decide) rfl _ _ ?_ p l hp
    clear p l hp; intro p l hp
    refine tabC_stripe arg10.view _ 1 (by decide) kernelRun_first.sl.v618 (mulf kernelRun_first.sl.v620 kernelRun_first.sl.v628) _ _ hf0 (by decide) (by decide) (by decide) rfl _ _ ?_ p l hp
    clear p l hp; intro p l hp
    refine tabC_stripe arg10.view _ 0 (by decide) kernelRun_first.sl.v618 (mulf kernelRun_first.sl.v620 kernelRun_first.sl.v628) _ _ hf0 (by decide) (by decide) (by decide) rfl _ _ ?_ p l hp
    clear p l hp; intro p l hp
    exact absurd hp (Nat.not_lt_zero _)
  have e11 : arg11.view.read (Elt Ideal) (arg11.view.writes (Elt Ideal) arg11.view.junk (kernelRun_first.sl.H11_32 c arg12 arg13)) = tabS 0 := by
    refine funext fun y => ?_
    suffices key : ∀ (p : Fin 2048) (l : Fin 128), p.val < 64 * (31 + 1) → arg11.view.read (Elt Ideal) (arg11.view.writes (Elt Ideal) arg11.view.junk (kernelRun_first.sl.H11_32 c arg12 arg13)) (ix2 p l) = tabS 0 (ix2 p l) by
      change (⟨2, ![2048, 128]⟩ : Shape).Idx at y
      idx_vars y
      exact key _ _ (Fin.isLt _)
    intro p l hp
    delta kernelRun_first.sl.H11_32
    refine tabS_stripe arg11.view _ 31 (by decide) kernelRun_first.sl.v618 (mulf kernelRun_first.sl.v620 kernelRun_first.sl.v628) _ _ hf1 (by decide) (by decide) (by decide) rfl _ _ ?_ p l hp
    clear p l hp; intro p l hp
    refine tabS_stripe arg11.view _ 30 (by decide) kernelRun_first.sl.v618 (mulf kernelRun_first.sl.v620 kernelRun_first.sl.v628) _ _ hf0 (by decide) (by decide) (by decide) rfl _ _ ?_ p l hp
    clear p l hp; intro p l hp
    refine tabS_stripe arg11.view _ 29 (by decide) kernelRun_first.sl.v618 (mulf kernelRun_first.sl.v620 kernelRun_first.sl.v628) _ _ hf0 (by decide) (by decide) (by decide) rfl _ _ ?_ p l hp
    clear p l hp; intro p l hp
    refine tabS_stripe arg11.view _ 28 (by decide) kernelRun_first.sl.v618 (mulf kernelRun_first.sl.v620 kernelRun_first.sl.v628) _ _ hf0 (by decide) (by decide) (by decide) rfl _ _ ?_ p l hp
    clear p l hp; intro p l hp
    refine tabS_stripe arg11.view _ 27 (by decide) kernelRun_first.sl.v618 (mulf kernelRun_first.sl.v620 kernelRun_first.sl.v628) _ _ hf0 (by decide) (by decide) (by decide) rfl _ _ ?_ p l hp
    clear p l hp; intro p l hp
    refine tabS_stripe arg11.view _ 26 (by decide) kernelRun_first.sl.v618 (mulf kernelRun_first.sl.v620 kernelRun_first.sl.v628) _ _ hf0 (by decide) (by decide) (by decide) rfl _ _ ?_ p l hp
    clear p l hp; intro p l hp
    refine tabS_stripe arg11.view _ 25 (by decide) kernelRun_first.sl.v618 (mulf kernelRun_first.sl.v620 kernelRun_first.sl.v628) _ _ hf0 (by decide) (by decide) (by decide) rfl _ _ ?_ p l hp
    clear p l hp; intro p l hp
    refine tabS_stripe arg11.view _ 24 (by decide) kernelRun_first.sl.v618 (mulf kernelRun_first.sl.v620 kernelRun_first.sl.v628) _ _ hf0 (by decide) (by decide) (by decide) rfl _ _ ?_ p l hp
    clear p l hp; intro p l hp
    refine tabS_stripe arg11.view _ 23 (by decide) kernelRun_first.sl.v618 (mulf kernelRun_first.sl.v620 kernelRun_first.sl.v628) _ _ hf0 (by decide) (by decide) (by decide) rfl _ _ ?_ p l hp
    clear p l hp; intro p l hp
    refine tabS_stripe arg11.view _ 22 (by decide) kernelRun_first.sl.v618 (mulf kernelRun_first.sl.v620 kernelRun_first.sl.v628) _ _ hf0 (by decide) (by decide) (by decide) rfl _ _ ?_ p l hp
    clear p l hp; intro p l hp
    refine tabS_stripe arg11.view _ 21 (by decide) kernelRun_first.sl.v618 (mulf kernelRun_first.sl.v620 kernelRun_first.sl.v628) _ _ hf0 (by decide) (by decide) (by decide) rfl _ _ ?_ p l hp
    clear p l hp; intro p l hp
    refine tabS_stripe arg11.view _ 20 (by decide) kernelRun_first.sl.v618 (mulf kernelRun_first.sl.v620 kernelRun_first.sl.v628) _ _ hf0 (by decide) (by decide) (by decide) rfl _ _ ?_ p l hp
    clear p l hp; intro p l hp
    refine tabS_stripe arg11.view _ 19 (by decide) kernelRun_first.sl.v618 (mulf kernelRun_first.sl.v620 kernelRun_first.sl.v628) _ _ hf0 (by decide) (by decide) (by decide) rfl _ _ ?_ p l hp
    clear p l hp; intro p l hp
    refine tabS_stripe arg11.view _ 18 (by decide) kernelRun_first.sl.v618 (mulf kernelRun_first.sl.v620 kernelRun_first.sl.v628) _ _ hf0 (by decide) (by decide) (by decide) rfl _ _ ?_ p l hp
    clear p l hp; intro p l hp
    refine tabS_stripe arg11.view _ 17 (by decide) kernelRun_first.sl.v618 (mulf kernelRun_first.sl.v620 kernelRun_first.sl.v628) _ _ hf0 (by decide) (by decide) (by decide) rfl _ _ ?_ p l hp
    clear p l hp; intro p l hp
    refine tabS_stripe arg11.view _ 16 (by decide) kernelRun_first.sl.v618 (mulf kernelRun_first.sl.v620 kernelRun_first.sl.v628) _ _ hf0 (by decide) (by decide) (by decide) rfl _ _ ?_ p l hp
    clear p l hp; intro p l hp
    refine tabS_stripe arg11.view _ 15 (by decide) kernelRun_first.sl.v618 (mulf kernelRun_first.sl.v620 kernelRun_first.sl.v628) _ _ hf0 (by decide) (by decide) (by decide) rfl _ _ ?_ p l hp
    clear p l hp; intro p l hp
    refine tabS_stripe arg11.view _ 14 (by decide) kernelRun_first.sl.v618 (mulf kernelRun_first.sl.v620 kernelRun_first.sl.v628) _ _ hf0 (by decide) (by decide) (by decide) rfl _ _ ?_ p l hp
    clear p l hp; intro p l hp
    refine tabS_stripe arg11.view _ 13 (by decide) kernelRun_first.sl.v618 (mulf kernelRun_first.sl.v620 kernelRun_first.sl.v628) _ _ hf0 (by decide) (by decide) (by decide) rfl _ _ ?_ p l hp
    clear p l hp; intro p l hp
    refine tabS_stripe arg11.view _ 12 (by decide) kernelRun_first.sl.v618 (mulf kernelRun_first.sl.v620 kernelRun_first.sl.v628) _ _ hf0 (by decide) (by decide) (by decide) rfl _ _ ?_ p l hp
    clear p l hp; intro p l hp
    refine tabS_stripe arg11.view _ 11 (by decide) kernelRun_first.sl.v618 (mulf kernelRun_first.sl.v620 kernelRun_first.sl.v628) _ _ hf0 (by decide) (by decide) (by decide) rfl _ _ ?_ p l hp
    clear p l hp; intro p l hp
    refine tabS_stripe arg11.view _ 10 (by decide) kernelRun_first.sl.v618 (mulf kernelRun_first.sl.v620 kernelRun_first.sl.v628) _ _ hf0 (by decide) (by decide) (by decide) rfl _ _ ?_ p l hp
    clear p l hp; intro p l hp
    refine tabS_stripe arg11.view _ 9 (by decide) kernelRun_first.sl.v618 (mulf kernelRun_first.sl.v620 kernelRun_first.sl.v628) _ _ hf0 (by decide) (by decide) (by decide) rfl _ _ ?_ p l hp
    clear p l hp; intro p l hp
    refine tabS_stripe arg11.view _ 8 (by decide) kernelRun_first.sl.v618 (mulf kernelRun_first.sl.v620 kernelRun_first.sl.v628) _ _ hf0 (by decide) (by decide) (by decide) rfl _ _ ?_ p l hp
    clear p l hp; intro p l hp
    refine tabS_stripe arg11.view _ 7 (by decide) kernelRun_first.sl.v618 (mulf kernelRun_first.sl.v620 kernelRun_first.sl.v628) _ _ hf0 (by decide) (by decide) (by decide) rfl _ _ ?_ p l hp
    clear p l hp; intro p l hp
    refine tabS_stripe arg11.view _ 6 (by decide) kernelRun_first.sl.v618 (mulf kernelRun_first.sl.v620 kernelRun_first.sl.v628) _ _ hf0 (by decide) (by decide) (by decide) rfl _ _ ?_ p l hp
    clear p l hp; intro p l hp
    refine tabS_stripe arg11.view _ 5 (by decide) kernelRun_first.sl.v618 (mulf kernelRun_first.sl.v620 kernelRun_first.sl.v628) _ _ hf0 (by decide) (by decide) (by decide) rfl _ _ ?_ p l hp
    clear p l hp; intro p l hp
    refine tabS_stripe arg11.view _ 4 (by decide) kernelRun_first.sl.v618 (mulf kernelRun_first.sl.v620 kernelRun_first.sl.v628) _ _ hf0 (by decide) (by decide) (by decide) rfl _ _ ?_ p l hp
    clear p l hp; intro p l hp
    refine tabS_stripe arg11.view _ 3 (by decide) kernelRun_first.sl.v618 (mulf kernelRun_first.sl.v620 kernelRun_first.sl.v628) _ _ hf0 (by decide) (by decide) (by decide) rfl _ _ ?_ p l hp
    clear p l hp; intro p l hp
    refine tabS_stripe arg11.view _ 2 (by decide) kernelRun_first.sl.v618 (mulf kernelRun_first.sl.v620 kernelRun_first.sl.v628) _ _ hf0 (by decide) (by decide) (by decide) rfl _ _ ?_ p l hp
    clear p l hp; intro p l hp
    refine tabS_stripe arg11.view _ 1 (by decide) kernelRun_first.sl.v618 (mulf kernelRun_first.sl.v620 kernelRun_first.sl.v628) _ _ hf0 (by decide) (by decide) (by decide) rfl _ _ ?_ p l hp
    clear p l hp; intro p l hp
    refine tabS_stripe arg11.view _ 0 (by decide) kernelRun_first.sl.v618 (mulf kernelRun_first.sl.v620 kernelRun_first.sl.v628) _ _ hf0 (by decide) (by decide) (by decide) rfl _ _ ?_ p l hp
    clear p l hp; intro p l hp
    exact absurd hp (Nat.not_lt_zero _)
  have w0 : kernelRun_first.sl.r c arg1 f1 = w (ix1 0) := (word_load arg1.view f1 (k := 0) (by decide) _ _).trans (congrFun e1 _)
  have w1 : kernelRun_first.sl.r_1 c arg1 f1 = w (ix1 1) := (word_load arg1.view f1 (k := 1) (by decide) _ _).trans (congrFun e1 _)
  have w2 : kernelRun_first.sl.r_2 c arg1 f1 = w (ix1 2) := (word_load arg1.view f1 (k := 2) (by decide) _ _).trans (congrFun e1 _)
  have w3 : kernelRun_first.sl.r_3 c arg1 f1 = w (ix1 3) := (word_load arg1.view f1 (k := 3) (by decide) _ _).trans (congrFun e1 _)
  have w4 : kernelRun_first.sl.r_4 c arg1 f1 = w (ix1 4) := (word_load arg1.view f1 (k := 4) (by decide) _ _).trans (congrFun e1 _)
  have w5 : kernelRun_first.sl.r_5 c arg1 f1 = w (ix1 5) := (word_load arg1.view f1 (k := 5) (by decide) _ _).trans (congrFun e1 _)
  have w6 : kernelRun_first.sl.r_6 c arg1 f1 = w (ix1 6) := (word_load arg1.view f1 (k := 6) (by decide) _ _).trans (congrFun e1 _)
  have w7 : kernelRun_first.sl.r_7 c arg1 f1 = w (ix1 7) := (word_load arg1.view f1 (k := 7) (by decide) _ _).trans (congrFun e1 _)
  have w8 : kernelRun_first.sl.r_8 c arg1 f1 = w (ix1 8) := (word_load arg1.view f1 (k := 8) (by decide) _ _).trans (congrFun e1 _)
  have hn9 : kernelRun_first.sl.r_9 c arg1 f1 = k0_pay2 (F := Ideal) (iota .tc S16x128 32 [0] iota_S16x128_d0_w32) (k0_pay1 (F := Ideal) (w (ix1 0)) (w (ix1 1)) (w (ix1 2)) (w (ix1 3)) (w (ix1 4)) (w (ix1 5)) (w (ix1 6)) (w (ix1 7))) 8#32 (w (ix1 8)) := by
    rw [← w0, ← w1, ← w2, ← w3, ← w4, ← w5, ← w6, ← w7, ← w8]; rfl
  have e8 : ∀ (r : Fin 9) (l : Fin 128), arg8.view.read (Elt Ideal) (arg8.view.writes (Elt Ideal) arg8.view.junk (kernelRun_first.sl.H8_1 c arg1 f1)) (ix2 (up r) l) = cosT (((w (ix1 r)).toInt : ℤ) : ℝ) l := fun r l =>
    (congrFun (View.read_writes_full arg8.view _ _ _ _) _).trans
      (c16 (n := kernelRun_first.sl.r_9 c arg1 f1) (p := kernelRun_first.sl.r_10 c arg1 f1) (q := kernelRun_first.sl.v341) (u := kernelRun_first.sl.v338) (h := broadcast S16x128 (Scalar.ofBits .f32 0x3F000000#32)) (b := cmpf .olt k0_pay3 kernelRun_first.sl.v338) (rl_n16 _ _ _ _) rfl r341 r338 rl_half
        ((congrFun hn9 _).trans (n16 (fun r => w (ix1 r)) r l)))
  have e9 : ∀ (r : Fin 9) (l : Fin 128), arg9.view.read (Elt Ideal) (arg9.view.writes (Elt Ideal) arg9.view.junk (kernelRun_first.sl.H9_1 c arg1 f1)) (ix2 (up r) l) = sinT (((w (ix1 r)).toInt : ℤ) : ℝ) l := fun r l =>
    (congrFun (View.read_writes_full arg9.view _ _ _ _) _).trans
      (s16 (n := kernelRun_first.sl.r_9 c arg1 f1) (p := kernelRun_first.sl.r_10 c arg1 f1) (q := kernelRun_first.sl.v341) (u := kernelRun_first.sl.v338) (h := broadcast S16x128 (Scalar.ofBits .f32 0x3F000000#32)) (b := cmpf .olt k0_pay3 kernelRun_first.sl.v338) (rl_n16 _ _ _ _) rfl r341 r338 rl_half
        ((congrFun hn9 _).trans (n16 (fun r => w (ix1 r)) r l)))
  isplitl [H1]
  · iexists _; isplitr; swap; · iexact H1
    ipureintro
    exact e1
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact val_kcodes Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ (((w (ix1 (⟨(i 0).val, (i 0).isLt⟩ : Fin 9))).toInt : ℤ) : ℝ) xK e2 (val_cos Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (((w (ix1 (⟨(i 0).val, (i 0).isLt⟩ : Fin 9))).toInt : ℤ) : ℝ) e10 e11 (fun l => e8 ⟨(i 0).val, (i 0).isLt⟩ l) (fun l => e9 ⟨(i 0).val, (i 0).isLt⟩ l) _ _ _) (val_sin Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (((w (ix1 (⟨(i 0).val, (i 0).isLt⟩ : Fin 9))).toInt : ℤ) : ℝ) e10 e11 (fun l => e8 ⟨(i 0).val, (i 0).isLt⟩ l) (fun l => e9 ⟨(i 0).val, (i 0).isLt⟩ l) _ _ _) _ _
  isplitl [H5]
  · iexists _; isplitr; swap; · iexact H5
    ipureintro
    exact val_vcodes Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ xV e3 _
  isplitl [H6]
  · iexists _; isplitr; swap; · iexact H6
    ipureintro
    exact (View.read_writes_full arg6.view _ _ _ _).trans (val_kscale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ (((w (ix1 (⟨(i 0).val, (i 0).isLt⟩ : Fin 9))).toInt : ℤ) : ℝ) xK e2 (val_cos Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (((w (ix1 (⟨(i 0).val, (i 0).isLt⟩ : Fin 9))).toInt : ℤ) : ℝ) e10 e11 (fun l => e8 ⟨(i 0).val, (i 0).isLt⟩ l) (fun l => e9 ⟨(i 0).val, (i 0).isLt⟩ l) _ _ _) (val_sin Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ (((w (ix1 (⟨(i 0).val, (i 0).isLt⟩ : Fin 9))).toInt : ℤ) : ℝ) e10 e11 (fun l => e8 ⟨(i 0).val, (i 0).isLt⟩ l) (fun l => e9 ⟨(i 0).val, (i 0).isLt⟩ l) _ _ _))
  isplitl [H7]
  · iexists _; isplitr; swap; · iexact H7
    ipureintro
    exact (View.read_writes_full arg7.view _ _ _ _).trans (val_vscale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ xV e3)
  isplitl [H8]
  · iexists _
    isplitr
    swap
    · iexists _
      isplitr
      swap
      · iexact H8
      ipureintro
      rfl
    ipureintro
    exact e8
  isplitl [H9]
  · iexists _
    isplitr
    swap
    · iexists _
      isplitr
      swap
      · iexact H9
      ipureintro
      rfl
    ipureintro
    exact e9
  isplitl [H10]
  · iexists _; isplitr; swap; · iexact H10
    ipureintro
    exact e10
  isplitl [H11]
  · iexists _; isplitr; swap; · iexact H11
    ipureintro
    exact e11
  isplitl [H12]
  · iexists _, _; isplitr; swap; · iexact H12
    ipureintro
    rfl
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  iexists _, _; isplitr; swap; · iexact H16
  ipureintro; rfl

end Cert.Rope
end
-- ==== Proof.BodyLater.lean ====
/-
  The body at every point but the first: its four results.
-/
module

public import Idealize.ShloMosaic.Lib.VecWindow
public import proofs.«01_k».proof.Proof.KernelIdealBody
public import proofs.«01_k».proof.Proof.BodyVals
@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Hand (firstPoint bodySkel body_eq)

/-- The body at a point that is not the first: the tables are read as they were left, and the four results are those of the point's blocks. -/
theorem kernelRun_later (c : Dev nD) (i : grid0.Coords) (arg1 : Memref sig .tc .smem S9 .i32) (harg1 : arg1.IsWhole) (arg2 : Memref sig .tc .vmem S256x8x8x128 .bf16) (harg2 : arg2.IsWhole) (arg3 : Memref sig .tc .vmem S256x8x8x128 .bf16) (harg3 : arg3.IsWhole) (arg4 : Memref sig .tc .vmem S1x2048x8x128 .fp8e4m3) (harg4 : arg4.IsWhole) (arg5 : Memref sig .tc .vmem S1x2048x8x128 .fp8e4m3) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S2048x128 .f32) (harg10 : arg10.IsWhole) (arg11 : Memref sig .tc .vmem S2048x128 .f32) (harg11 : arg11.IsWhole) (arg12 : Memref sig .tc .vmem S64x128 .f32) (harg12 : arg12.IsWhole) (arg13 : Memref sig .tc .vmem S64x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x8x128 .f32) (harg16 : arg16.IsWhole)
    (hb : ¬ firstPoint i) (w : S9.Idx → BitVec 32) (xK xV : S256x8x8x128.Idx → EReal) (o8 o9 : S16x128.Idx → EReal) (n : ℝ)
    (h8 : ∀ l, o8 (ix2 (rowOf i) l) = cosT n l) (h9 : ∀ l, o9 (ix2 (rowOf i) l) = sinT n l) (K : PUnit → sProp (MT nD τ sig Unit (Elt Ideal) ℕ (UR sig nD τ) ℕ)) :
    iprop(owns (c : Thread nD τ) arg1 fullShare w ∗ owns (c : Thread nD τ) arg2 fullShare xK ∗ owns (c : Thread nD τ) arg3 fullShare xV ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare o8 ∗ owns (c : Thread nD τ) arg9 fullShare o9 ∗ owns (c : Thread nD τ) arg10 fullShare (tabC 0) ∗ owns (c : Thread nD τ) arg11 fullShare (tabS 0) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare w ∗ owns (c : Thread nD τ) arg2 fullShare xK ∗ owns (c : Thread nD τ) arg3 fullShare xV ∗ owns (c : Thread nD τ) arg4 fullShare (kqOf xK n) ∗ owns (c : Thread nD τ) arg5 fullShare (vqOf xV) ∗ owns (c : Thread nD τ) arg6 fullShare (ksOf xK n) ∗ owns (c : Thread nD τ) arg7 fullShare (vsOf xV) ∗ owns (c : Thread nD τ) arg8 fullShare o8 ∗ owns (c : Thread nD τ) arg9 fullShare o9 ∗ owns (c : Thread nD τ) arg10 fullShare (tabC 0) ∗ owns (c : Thread nD τ) arg11 fullShare (tabS 0) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
      ⊢ wp frame (wpE (defs₀ (F := Ideal)) Variants.none (c : Thread nD τ) none) Set.univ
          (cc0_rope_kv_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [body_eq]
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, ⟨%f8, %e8, H8⟩, ⟨%f9, %e9, H9⟩, ⟨%f10, %e10, H10⟩, ⟨%f11, %e11, H11⟩, ⟨%d12, %f12, -, H12⟩, ⟨%d13, %f13, -, H13⟩, ⟨%d14, %f14, -, H14⟩, ⟨%d15, %f15, -, H15⟩, ⟨%d16, %f16, -, H16⟩, Hk⟩
  sl_exec
  sl_step
  iapply Hk
  isplitl [H1]
  · iexists _; isplitr; swap; · iexact H1
    ipureintro
    exact e1
  isplitl [H2]
  · iexists _; isplitr; swap; · iexact H2
    ipureintro
    exact e2
  isplitl [H3]
  · iexists _; isplitr; swap; · iexact H3
    ipureintro
    exact e3
  isplitl [H4]
  · iexists _; isplitr; swap; · iexact H4
    ipureintro
    exact val_kcodes Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ n xK e2 (val_cos Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ n e10 e11 (fun l => (congrFun e8 _).trans (h8 l)) (fun l => (congrFun e9 _).trans (h9 l)) _ _ _) (val_sin Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ n e10 e11 (fun l => (congrFun e8 _).trans (h8 l)) (fun l => (congrFun e9 _).trans (h9 l)) _ _ _) _ _
  isplitl [H5]
  · iexists _; isplitr; swap; · iexact H5
    ipureintro
    exact val_vcodes Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ xV e3 _
  isplitl [H6]
  · iexists _; isplitr; swap; · iexact H6
    ipureintro
    exact (View.read_writes_full arg6.view _ _ _ _).trans (val_kscale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ n xK e2 (val_cos Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ n e10 e11 (fun l => (congrFun e8 _).trans (h8 l)) (fun l => (congrFun e9 _).trans (h9 l)) _ _ _) (val_sin Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ n e10 e11 (fun l => (congrFun e8 _).trans (h8 l)) (fun l => (congrFun e9 _).trans (h9 l)) _ _ _))
  isplitl [H7]
  · iexists _; isplitr; swap; · iexact H7
    ipureintro
    exact (View.read_writes_full arg7.view _ _ _ _).trans (val_vscale Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ xV e3)
  isplitl [H8]
  · iexists _; isplitr; swap; · iexact H8
    ipureintro
    exact e8
  isplitl [H9]
  · iexists _; isplitr; swap; · iexact H9
    ipureintro
    exact e9
  isplitl [H10]
  · iexists _; isplitr; swap; · iexact H10
    ipureintro
    exact e10
  isplitl [H11]
  · iexists _; isplitr; swap; · iexact H11
    ipureintro
    exact e11
  isplitl [H12]
  · iexists _, _; isplitr; swap; · iexact H12
    ipureintro
    rfl
  isplitl [H13]
  · iexists _, _; isplitr; swap; · iexact H13
    ipureintro
    rfl
  isplitl [H14]
  · iexists _, _; isplitr; swap; · iexact H14
    ipureintro
    rfl
  isplitl [H15]
  · iexists _, _; isplitr; swap; · iexact H15
    ipureintro
    rfl
  iexists _, _; isplitr; swap; · iexact H16
  ipureintro; rfl

end Cert.Rope
end
-- ==== Proof.Launch.lean ====
/-
  The launch with every result's value: what each grid point finds in the windows it reads, what it leaves in the windows it
  writes, and the angle tables that stay in scratch from the first point on.
-/
module

public import proofs.«01_k».proof.Proof.BodyFirst
public import proofs.«01_k».proof.Proof.BodyLater
public import Idealize.ShloMosaic.Lib.Pipeline.Frame
public import Idealize.ShloMosaic.Lib.Tactic
public import Idealize.ShloMosaic.Lib.Pipeline.ValueKit

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Hand (firstPoint)

variable (m : (ℓ : Loc nD τ sig) → Buf (Elt Ideal) ℓ) (ρ : Dev nD → PrngReg)

/-- The offsets as launched. -/
def words (c : Dev nD) : S9.Idx → BitVec 32 := m ((c : Thread nD τ).loc main_arg2)

/-- The offset of sequence `r`. -/
def offAt (c : Dev nD) (r : Fin 9) : ℝ := (((words m c (ix1 r)).toInt : ℤ) : ℝ)

/-- The sequence a grid point works on. -/
def seqAt (t : Fin cfg0.N) : Fin 9 := ⟨(grid0.coords t 0).val, (grid0.coords t 0).isLt⟩

theorem win0_0_index (t : Fin cfg0.N) : win0_0.index t = ![0] := rfl

theorem iblk_words (c : Dev nD) (t : Fin cfg0.N) : iblk m c 0 t = words m c := by
  refine funext fun j => ?_
  unfold iblk words
  rw [View.read_apply]
  refine Eq.trans ?_ (congrFun (V_main_arg2 m c) j)
  refine congrArg (V m c main_arg2) (funext fun a => Fin.ext ?_)
  blk_simp [win0_0_index]
  fin_cases a
  simp

/-- The scratch from the first point on: the two tables over the sequences, the two over the rows, the rest at anything. -/
def tracked (c : Dev nD) : sProp (MT nD τ sig Unit (Elt Ideal) ℕ (UR sig nD τ) ℕ) := iprop(iprop((∃ d, iprop(⌜∀ (r : Fin 9) (l : Fin 128), d (ix2 (up r) l) = cosT (offAt m c r) l⌝ ∗ owns (c : Thread nD τ) (Memref.whole cc0_scratch0) fullShare d)) ∗ (∃ d, iprop(⌜∀ (r : Fin 9) (l : Fin 128), d (ix2 (up r) l) = sinT (offAt m c r) l⌝ ∗ owns (c : Thread nD τ) (Memref.whole cc0_scratch1) fullShare d)) ∗ owns (c : Thread nD τ) (Memref.whole cc0_scratch2) fullShare (tabC 0) ∗ owns (c : Thread nD τ) (Memref.whole cc0_scratch3) fullShare (tabS 0) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r))

/-- The proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => kqOf (iblk m c 1 t) (offAt m c (seqAt t))
    | ⟨4, _⟩ => vqOf (iblk m c 2 t)
    | ⟨5, _⟩ => ksOf (iblk m c 1 t) (offAt m c (seqAt t))
    | ⟨6, _⟩ => vsOf (iblk m c 2 t)
  Φ t := if t.val = 0 then Pipeline.ΦA spec0 c else tracked m c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = kqOf (iblk m c 1 t) (offAt m c (seqAt t)) := by dsimp only [dats]
theorem after0_4 (c : Dev nD) (t : Fin cfg0.N) : (dats m 0 c).after 4 t = vqOf (iblk m c 2 t) := by dsimp only [dats]
theorem after0_5 (c : Dev nD) (t : Fin cfg0.N) : (dats m 0 c).after 5 t = ksOf (iblk m c 1 t) (offAt m c (seqAt t)) := by dsimp only [dats]
theorem after0_6 (c : Dev nD) (t : Fin cfg0.N) : (dats m 0 c).after 6 t = vsOf (iblk m c 2 t) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

theorem phi_succ (c : Dev nD) (t : Fin cfg0.N) : (dats m 0 c).Φ t.succ = tracked m c := by
  dsimp only [dats]; rw [if_neg (by simp)]

theorem phi_first (c : Dev nD) (t : Fin cfg0.N) (h : t.val = 0) : (dats m 0 c).Φ t.castSucc = Pipeline.ΦA spec0 c := by
  dsimp only [dats]; rw [if_pos (by simpa using h)]

theorem phi_later (c : Dev nD) (t : Fin cfg0.N) (h : t.val ≠ 0) : (dats m 0 c).Φ t.castSucc = tracked m c := by
  dsimp only [dats]; rw [if_neg (by simpa using h)]

theorem firstPoint_iff : ∀ t : Fin cfg0.N, firstPoint (grid0.coords t) ↔ t.val = 0 := by decide +kernel

def bodyPre (c : Dev nD) (t : Fin cfg0.N) : sProp (MT nD τ sig Unit (Elt Ideal) ℕ (UR sig nD τ) ℕ) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
def bodyPost (c : Dev nD) (t : Fin cfg0.N) : sProp (MT nD τ sig Unit (Elt Ideal) ℕ (UR sig nD τ) ℕ) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

/-- The body at a point: the scratch taken out of the invariant, the run, the scratch put back. -/
theorem sound_body (c : Dev nD) (t : Fin cfg0.N) :
    bodyPre m c t ⊢ wp frame (wpE (defs₀ (F := Ideal)) Variants.none (c : Thread nD τ) none) Set.univ (bodyAt0 t) (fun _ => bodyPost m c t) := by
  unfold bodyPre bodyPost bodyAt0
  simp only [before0_0, before0_1, before0_2]
  rw [phi_succ, show (dats m 0 c).owesAt () t.succ = (dats m 0 c).owesAt () t.castSucc from rfl,
    after0_0, after0_1, after0_2, after0_3, after0_4, after0_5, after0_6, iblk_words]
  by_cases h : t.val = 0
  · rw [phi_first m c t h, Cert.KernelIdeal.Hand.PhiA_eq]
    iintro ⟨⟨⟨S0, S1, S2, S3, S4, S5, S6, S7, S8⟩, Hg⟩, HO, ⟨%d0, W0⟩, ⟨%d1, W1⟩, ⟨%d2, W2⟩, ⟨%d3, W3⟩, ⟨%d4, W4⟩, ⟨%d5, W5⟩, ⟨%d6, W6⟩⟩
    iapply (kernelRun_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) ((firstPoint_iff t).2 h) (words m c) (iblk m c 1 t) (iblk m c 2 t) _)
    isplitl [W0]; · iexact W0
    isplitl [W1]; · iexact W1
    isplitl [W2]; · iexact W2
    isplitl [W3]; · iexists _; iexact W3
    isplitl [W4]; · iexists _; iexact W4
    isplitl [W5]; · iexists _; iexact W5
    isplitl [W6]; · iexists _; iexact W6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8

    iintro ⟨W0, W1, W2, W3, W4, W5, W6, S0, S1, S2, S3, S4, S5, S6, S7, S8⟩
    isplitl [S0 S1 S2 S3 S4 S5 S6 S7 S8 Hg]
    · unfold tracked
      isplitl [S0 S1 S2 S3 S4 S5 S6 S7 S8]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        iexact S8
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    iexact W6
  · rw [phi_later m c t h]
    unfold tracked
    iintro ⟨⟨⟨⟨%e0, %h0, S0⟩, ⟨%e1, %h1, S1⟩, S2, S3, S4, S5, S6, S7, S8⟩, Hg⟩, HO, ⟨%d0, W0⟩, ⟨%d1, W1⟩, ⟨%d2, W2⟩, ⟨%d3, W3⟩, ⟨%d4, W4⟩, ⟨%d5, W5⟩, ⟨%d6, W6⟩⟩
    iapply (kernelRun_later c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (fun hf => h ((firstPoint_iff t).1 hf)) (words m c) (iblk m c 1 t) (iblk m c 2 t) e0 e1 (offAt m c (seqAt t)) (fun l => h0 (seqAt t) l) (fun l => h1 (seqAt t) l) _)
    isplitl [W0]; · iexact W0
    isplitl [W1]; · iexact W1
    isplitl [W2]; · iexact W2
    isplitl [W3]; · iexists _; iexact W3
    isplitl [W4]; · iexists _; iexact W4
    isplitl [W5]; · iexists _; iexact W5
    isplitl [W6]; · iexists _; iexact W6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8

    iintro ⟨W0, W1, W2, W3, W4, W5, W6, S0, S1, S2, S3, S4, S5, S6, S7, S8⟩
    isplitl [S0 S1 S2 S3 S4 S5 S6 S7 S8 Hg]
    · isplitl [S0 S1 S2 S3 S4 S5 S6 S7 S8]
      · isplitl [S0]
        · iexists e0; isplitr; · ipureintro; exact h0
          iexact S0
        isplitl [S1]
        · iexists e1; isplitr; · ipureintro; exact h1
          iexact S1
        isplitl [S2]; · iexact S2
        isplitl [S3]; · iexact S3
        isplitl [S4]; · iexact S4
        isplitl [S5]; · iexact S5
        isplitl [S6]; · iexact S6
        isplitl [S7]; · iexact S7
        iexact S8
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    iexact W6

theorem body_obligation (c : Dev nD) :
    BodyObligation (dats m 0 c) (defs₀ (F := Ideal)) Variants.none () Set.univ := fun t => by
  rw [bigSep_W0, bigSep_W0, Cert.KernelIdeal.Hand.defs₀_row]
  exact triple_restated (sound_body m c t) rfl .rfl fun _ => .rfl

theorem tracked_forget (c : Dev nD) : tracked m c ⊢ Pipeline.ΦA spec0 c := by
  rw [Cert.KernelIdeal.Hand.PhiA_eq]
  unfold tracked
  iintro ⟨⟨⟨%e0, %h0, S0⟩, ⟨%e1, %h1, S1⟩, S2, S3, S4, S5, S6, S7, S8⟩, Hg⟩
  isplitl [S0 S1 S2 S3 S4 S5 S6 S7 S8]
  · isplitl [S0]; · iexists _; iexact S0
    isplitl [S1]; · iexists _; iexact S1
    isplitl [S2]; · iexists _; iexact S2
    isplitl [S3]; · iexists _; iexact S3
    isplitl [S4]; · iexact S4
    isplitl [S5]; · iexact S5
    isplitl [S6]; · iexact S6
    isplitl [S7]; · iexact S7
    iexact S8
  iexact Hg

set_option backward.isDefEq.respectTransparency.types false in
/-- The run: every window's array at what the proof data gives, every other buffer at what the host lines leave. -/
theorem run_main :
    θ_run defs (onTc (τ := τ) (main (F := Ideal))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m)
    (fun c => by dsimp only [dats]; rw [if_pos (by rfl)])
    (fun c => by dsimp only [dats]; rw [if_neg (by decide)]; exact tracked_forget m c)

end Cert.Rope

end
-- ==== Proof.KernelOut.lean ====
/-
  What the kernel's run leaves in its four results, as functions of the arguments: every sequence's block is the
  sequence, and its codes and scales are the block's.
-/
module

public import proofs.«01_k».proof.Proof.Launch

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ) (ρ : Dev nD → PrngReg)

/-- Element `(s, h, l)` of sequence `b`. -/
def elt (a : S9x2048x1024.Idx → EReal) (b : Fin 9) (s : Fin 2048) (h : Fin 8) (l : Fin 128) : EReal :=
  a (ix3 b s ⟨128 * h.val + l.val, by omega⟩)

theorem tile_lt (T : Fin 256) (q : Fin 8) : 8 * T.val + q.val < 2048 := by omega
/-- A sequence as the block of tiles the kernel works on. -/
def kIn (a : S9x2048x1024.Idx → EReal) (b : Fin 9) : S256x8x8x128.Idx → EReal :=
  fun j => elt a b ⟨8 * (j 0).val + (j 2).val, tile_lt (j 0) (j 2)⟩ (j 1) (j 3)

theorem at3_kIn (a : S9x2048x1024.Idx → EReal) (b : Fin 9) (s : Fin 2048) (h : Fin 8) (l : Fin 128) : at3 (kIn a b) s h l = elt a b s h l := by
  unfold at3 kIn
  refine congrArg (fun p : Fin 2048 => elt a b p h l) (Fin.ext ?_)
  show 8 * (s.val / 8) + s.val % 8 = s.val
  omega

def kArg (c : Dev nD) : S9x2048x1024.Idx → EReal := m ((c : Thread nD τ).loc main_arg0)
def vArg (c : Dev nD) : S9x2048x1024.Idx → EReal := m ((c : Thread nD τ).loc main_arg1)

/-- The tiles of an argument, at an index. -/
theorem tiles_at (a : S9x2048x1024.Idx → EReal) (b : Fin 9) (T : Fin 256) (h q : Fin 8) (l : Fin 128) (g : Fin 2304) (hg : g.val = 256 * b.val + T.val) :
    transpose S2304x8x8x128 [0, 2, 1, 3] (shapeCast S2304x8x8x128 a shapeCasts_S9x2048x1024_S2304x8x8x128) transposes_S2304x8x8x128_S2304x8x8x128_0_2_1_3 (ix4 g h q l)
      = kIn a b (ix4 T h q l) := by
  refine (transpose_apply _ _ _ _ (ix4 g q h l) (by intro a; fin_cases a <;> rfl)).trans ?_
  refine (shapeCast_apply a _ (ix4 g q h l) (ix3 b ⟨8 * T.val + q.val, tile_lt T q⟩ ⟨128 * h.val + l.val, by omega⟩) ?_).trans rfl
  rw [Shape.rowMajor_val_four, Shape.rowMajor_val_three]
  show (b.val * 2048 + (8 * T.val + q.val)) * 1024 + (128 * h.val + l.val) = ((g.val * 8 + q.val) * 8 + h.val) * 128 + l.val
  omega

theorem V_main_v1 (c : Dev nD) : V m c main_v1 =
    transpose S2304x8x8x128 [0, 2, 1, 3] (shapeCast S2304x8x8x128 (kArg m c) shapeCasts_S9x2048x1024_S2304x8x8x128) transposes_S2304x8x8x128_S2304x8x8x128_0_2_1_3 := by
  entry_read
  rfl
theorem V_main_v3 (c : Dev nD) : V m c main_v3 =
    transpose S2304x8x8x128 [0, 2, 1, 3] (shapeCast S2304x8x8x128 (vArg m c) shapeCasts_S9x2048x1024_S2304x8x8x128) transposes_S2304x8x8x128_S2304x8x8x128_0_2_1_3 := by
  entry_read
  rfl

theorem win0_1_index : ∀ t : Fin cfg0.N, win0_1.index t = ![(grid0.coords t 0).val, 0, 0, 0] := (by decide +kernel : ∀ t : Fin grid0.N, _)
theorem win0_2_index : ∀ t : Fin cfg0.N, win0_2.index t = ![(grid0.coords t 0).val, 0, 0, 0] := (by decide +kernel : ∀ t : Fin grid0.N, _)
theorem win0_3_index : ∀ t : Fin cfg0.N, win0_3.index t = ![(grid0.coords t 0).val, 0, 0, 0] := (by decide +kernel : ∀ t : Fin grid0.N, _)
theorem win0_4_index : ∀ t : Fin cfg0.N, win0_4.index t = ![(grid0.coords t 0).val, 0, 0, 0] := (by decide +kernel : ∀ t : Fin grid0.N, _)
theorem win0_5_index : ∀ t : Fin cfg0.N, win0_5.index t = ![(grid0.coords t 0).val, 0, 0] := (by decide +kernel : ∀ t : Fin grid0.N, _)
theorem win0_6_index : ∀ t : Fin cfg0.N, win0_6.index t = ![(grid0.coords t 0).val, 0, 0] := (by decide +kernel : ∀ t : Fin grid0.N, _)

theorem tileIdx_lt (t : Fin cfg0.N) (T : Fin 256) : 256 * (seqAt t).val + T.val < 2304 := by
  have := (seqAt t).isLt; omega

theorem iblk_1 (c : Dev nD) (t : Fin cfg0.N) : iblk m c 1 t = kIn (kArg m c) (seqAt t) := by
  refine funext fun j => ?_
  change (⟨4, ![256, 8, 8, 128]⟩ : Shape).Idx at j
  suffices key : ∀ (T : Fin 256) (h q : Fin 8) (l : Fin 128), iblk m c 1 t (ix4 T h q l) = kIn (kArg m c) (seqAt t) (ix4 T h q l) by
    idx_vars j
    exact key _ _ _ _
  intro T h q l
  refine Eq.trans ?_ (tiles_at (kArg m c) (seqAt t) T h q l ⟨256 * (seqAt t).val + T.val, tileIdx_lt t T⟩ rfl)
  unfold iblk
  rw [View.read_apply]
  refine (congrFun (V_main_v1 m c) _).trans ?_
  refine congrArg (transpose S2304x8x8x128 [0, 2, 1, 3] (shapeCast S2304x8x8x128 (kArg m c) shapeCasts_S9x2048x1024_S2304x8x8x128) transposes_S2304x8x8x128_S2304x8x8x128_0_2_1_3) (funext fun a => Fin.ext ?_)
  blk_simp [win0_1_index]
  fin_cases a
  · show (grid0.coords t 0).val * 256 + T.val = 256 * (grid0.coords t 0).val + T.val
    omega
  · show 0 * 8 + h.val = h.val
    omega
  · show 0 * 8 + q.val = q.val
    omega
  · show 0 * 128 + l.val = l.val
    omega

theorem iblk_2 (c : Dev nD) (t : Fin cfg0.N) : iblk m c 2 t = kIn (vArg m c) (seqAt t) := by
  refine funext fun j => ?_
  change (⟨4, ![256, 8, 8, 128]⟩ : Shape).Idx at j
  suffices key : ∀ (T : Fin 256) (h q : Fin 8) (l : Fin 128), iblk m c 2 t (ix4 T h q l) = kIn (vArg m c) (seqAt t) (ix4 T h q l) by
    idx_vars j
    exact key _ _ _ _
  intro T h q l
  refine Eq.trans ?_ (tiles_at (vArg m c) (seqAt t) T h q l ⟨256 * (seqAt t).val + T.val, tileIdx_lt t T⟩ rfl)
  unfold iblk
  rw [View.read_apply]
  refine (congrFun (V_main_v3 m c) _).trans ?_
  refine congrArg (transpose S2304x8x8x128 [0, 2, 1, 3] (shapeCast S2304x8x8x128 (vArg m c) shapeCasts_S9x2048x1024_S2304x8x8x128) transposes_S2304x8x8x128_S2304x8x8x128_0_2_1_3) (funext fun a => Fin.ext ?_)
  blk_simp [win0_2_index]
  fin_cases a
  · show (grid0.coords t 0).val * 256 + T.val = 256 * (grid0.coords t 0).val + T.val
    omega
  · show 0 * 8 + h.val = h.val
    omega
  · show 0 * 8 + q.val = q.val
    omega
  · show 0 * 128 + l.val = l.val
    omega

/-- The rows of a whole result from the sequences' blocks. -/
def stackCodes (f : Fin 9 → S1x2048x8x128.Idx → EReal) : S9x2048x8x128.Idx → EReal := fun j => f (j 0) (ix4 0 (j 1) (j 2) (j 3))
def stackScale (f : Fin 9 → S1x8x128.Idx → EReal) : S9x8x128.Idx → EReal := fun j => f (j 0) (ix3 0 (j 1) (j 2))

theorem out_3 (c : Dev nD) : (dats m 0 c).arrAt 3 cfg0.N = (stackCodes fun b => kqOf (kIn (kArg m c) b) (offAt m c b)) := by
  refine (dats m 0 c).arrAt_eq_of_covers 3 _ (by decide +kernel) fun t hf y => ?_
  blk_simp
  rw [after0_3, iblk_1]
  change (⟨4, ![1, 2048, 8, 128]⟩ : Shape).Idx at y
  suffices key : ∀ (u : Fin 1) (p : Fin 2048) (h : Fin 8) (l : Fin 128), (kqOf (kIn (kArg m c) (seqAt t)) (offAt m c (seqAt t))) (ix4 u p h l) = (stackCodes fun b => kqOf (kIn (kArg m c) b) (offAt m c b)) (((cfg0.win 3).blk t).view.emb (ix4 u p h l)) by
    idx_vars y
    exact key _ _ _ _
  intro u p h l
  have hu : u = 0 := Subsingleton.elim _ _
  subst hu
  refine Eq.trans (b := (stackCodes fun b => kqOf (kIn (kArg m c) b) (offAt m c b)) (ix4 (seqAt t) p h l)) rfl (congrArg (stackCodes fun b => kqOf (kIn (kArg m c) b) (offAt m c b)) (funext fun a => Fin.ext ?_))
  blk_simp [win0_3_index]
  fin_cases a
  · show (grid0.coords t 0).val = (grid0.coords t 0).val * 1 + 0
    omega
  · show p.val = 0 * 2048 + p.val
    omega
  · show h.val = 0 * 8 + h.val
    omega
  · show l.val = 0 * 128 + l.val
    omega

theorem out_4 (c : Dev nD) : (dats m 0 c).arrAt 4 cfg0.N = (stackCodes fun b => vqOf (kIn (vArg m c) b)) := by
  refine (dats m 0 c).arrAt_eq_of_covers 4 _ (by decide +kernel) fun t hf y => ?_
  blk_simp
  rw [after0_4, iblk_2]
  change (⟨4, ![1, 2048, 8, 128]⟩ : Shape).Idx at y
  suffices key : ∀ (u : Fin 1) (p : Fin 2048) (h : Fin 8) (l : Fin 128), (vqOf (kIn (vArg m c) (seqAt t))) (ix4 u p h l) = (stackCodes fun b => vqOf (kIn (vArg m c) b)) (((cfg0.win 4).blk t).view.emb (ix4 u p h l)) by
    idx_vars y
    exact key _ _ _ _
  intro u p h l
  have hu : u = 0 := Subsingleton.elim _ _
  subst hu
  refine Eq.trans (b := (stackCodes fun b => vqOf (kIn (vArg m c) b)) (ix4 (seqAt t) p h l)) rfl (congrArg (stackCodes fun b => vqOf (kIn (vArg m c) b)) (funext fun a => Fin.ext ?_))
  blk_simp [win0_4_index]
  fin_cases a
  · show (grid0.coords t 0).val = (grid0.coords t 0).val * 1 + 0
    omega
  · show p.val = 0 * 2048 + p.val
    omega
  · show h.val = 0 * 8 + h.val
    omega
  · show l.val = 0 * 128 + l.val
    omega

theorem out_5 (c : Dev nD) : (dats m 0 c).arrAt 5 cfg0.N = (stackScale fun b => ksOf (kIn (kArg m c) b) (offAt m c b)) := by
  refine (dats m 0 c).arrAt_eq_of_covers 5 _ (by decide +kernel) fun t hf y => ?_
  blk_simp
  rw [after0_5, iblk_1]
  change (⟨3, ![1, 8, 128]⟩ : Shape).Idx at y
  suffices key : ∀ (u : Fin 1) (h : Fin 8) (l : Fin 128), (ksOf (kIn (kArg m c) (seqAt t)) (offAt m c (seqAt t))) (ix3 u h l) = (stackScale fun b => ksOf (kIn (kArg m c) b) (offAt m c b)) (((cfg0.win 5).blk t).view.emb (ix3 u h l)) by
    idx_vars y
    exact key _ _ _
  intro u h l
  have hu : u = 0 := Subsingleton.elim _ _
  subst hu
  refine Eq.trans (b := (stackScale fun b => ksOf (kIn (kArg m c) b) (offAt m c b)) (ix3 (seqAt t) h l)) rfl (congrArg (stackScale fun b => ksOf (kIn (kArg m c) b) (offAt m c b)) (funext fun a => Fin.ext ?_))
  blk_simp [win0_5_index]
  fin_cases a
  · show (grid0.coords t 0).val = (grid0.coords t 0).val * 1 + 0
    omega
  · show h.val = 0 * 8 + h.val
    omega
  · show l.val = 0 * 128 + l.val
    omega

theorem out_6 (c : Dev nD) : (dats m 0 c).arrAt 6 cfg0.N = (stackScale fun b => vsOf (kIn (vArg m c) b)) := by
  refine (dats m 0 c).arrAt_eq_of_covers 6 _ (by decide +kernel) fun t hf y => ?_
  blk_simp
  rw [after0_6, iblk_2]
  change (⟨3, ![1, 8, 128]⟩ : Shape).Idx at y
  suffices key : ∀ (u : Fin 1) (h : Fin 8) (l : Fin 128), (vsOf (kIn (vArg m c) (seqAt t))) (ix3 u h l) = (stackScale fun b => vsOf (kIn (vArg m c) b)) (((cfg0.win 6).blk t).view.emb (ix3 u h l)) by
    idx_vars y
    exact key _ _ _
  intro u h l
  have hu : u = 0 := Subsingleton.elim _ _
  subst hu
  refine Eq.trans (b := (stackScale fun b => vsOf (kIn (vArg m c) b)) (ix3 (seqAt t) h l)) rfl (congrArg (stackScale fun b => vsOf (kIn (vArg m c) b)) (funext fun a => Fin.ext ?_))
  blk_simp [win0_6_index]
  fin_cases a
  · show (grid0.coords t 0).val = (grid0.coords t 0).val * 1 + 0
    omega
  · show h.val = 0 * 8 + h.val
    omega
  · show l.val = 0 * 128 + l.val
    omega

/-- The scales the host's lines cut out of the kernel's: one per sequence and head. -/
def headScale (f : Fin 9 → S1x8x128.Idx → EReal) : S9x8.Idx → EReal := fun j => f (j 0) (ix3 0 (j 1) 0)

theorem cut_scale (f : Fin 9 → S1x8x128.Idx → EReal) :
    shapeCast S9x8 (extractStridedSlice S9x8x1 ![0, 0, 0] (stackScale f) slices_S9x8x128_S9x8x1_0_0_0) shapeCasts_S9x8x1_S9x8 = headScale f := by
  refine funext fun j => ?_
  change (⟨2, ![9, 8]⟩ : Shape).Idx at j
  suffices key : ∀ (b : Fin 9) (h : Fin 8), shapeCast S9x8 (extractStridedSlice S9x8x1 ![0, 0, 0] (stackScale f) slices_S9x8x128_S9x8x1_0_0_0) shapeCasts_S9x8x1_S9x8 (ix2 b h) = headScale f (ix2 b h) by
    idx_vars j
    exact key _ _
  intro b h
  refine (shapeCast_apply _ _ (ix2 b h) (ix3 b h (0 : Fin 1)) ?_).trans ?_
  · rw [Shape.rowMajor_val_three, Shape.rowMajor_val_two]
    show (b.val * 8 + h.val) * 1 + 0 = b.val * 8 + h.val
    omega
  · exact (extractStridedSlice_apply _ _ _ _ (ix3 b h (0 : Fin 128)) (by intro a; fin_cases a <;> simp)).trans rfl

end Cert.Rope

end
-- ==== Proof.KernelValue.lean ====
/-
  The kernel's run: its four results, the scales after the host's lines.
-/
module

public import proofs.«01_k».proof.Proof.KernelOut
public import Idealize.ShloMosaic.Lib.StableHlo.RunRead

@[expose] public section

set_option maxHeartbeats 4000000
set_option maxRecDepth 65536

noncomputable section

namespace Cert.Rope

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ) (ρ : Dev nD → PrngReg)

theorem tail_v6 (c : Dev nD) : Pipeline.afterTail₀ cfgs (dats m) 0 (V0 m) [hostOps1] c main_v6 = headScale fun b => ksOf (kIn (kArg m c) b) (offAt m c b) := by
  rw [← cut_scale, ← out_5]
  unfold Pipeline.afterTail₀
  dsimp only [hostOps1, List.flatten_cons, List.flatten_nil, List.cons_append, List.nil_append, List.append_nil]
  after_reads_simp
  rw [show Pipeline.withArrays (cfgs 0).spec c (V0 m c) (fun w => (dats m 0 c).arrAt w (cfgs 0).N) (Proc.devRef .tc main_v4_2) = (dats m 0 c).arrAt 5 cfg0.N from
    Pipeline.withArrays_arr spec0 (by decide) c (V0 m c) (fun w => (dats m 0 c).arrAt w (cfgs 0).N) 5]
  rfl
theorem tail_v8 (c : Dev nD) : Pipeline.afterTail₀ cfgs (dats m) 0 (V0 m) [hostOps1] c main_v8 = headScale fun b => vsOf (kIn (vArg m c) b) := by
  rw [← cut_scale, ← out_6]
  unfold Pipeline.afterTail₀
  dsimp only [hostOps1, List.flatten_cons, List.flatten_nil, List.cons_append, List.nil_append, List.append_nil]
  after_reads_simp
  rw [show Pipeline.withArrays (cfgs 0).spec c (V0 m c) (fun w => (dats m 0 c).arrAt w (cfgs 0).N) (Proc.devRef .tc main_v4_3) = (dats m 0 c).arrAt 6 cfg0.N from
    Pipeline.withArrays_arr spec0 (by decide) c (V0 m c) (fun w => (dats m 0 c).arrAt w (cfgs 0).N) 6]
  rfl

/-- The kernel's run: its four results. -/
theorem run_values :
    θ_run defs (onTc (τ := τ) (main (F := Ideal))) ⟨m, fun _ => 0, ρ⟩ (fun r => ∀ c : Dev nD,
      r.2.mem ((c.tc : Thread nD τ).loc main_v4_0) = (stackCodes fun b => kqOf (kIn (kArg m c) b) (offAt m c b))
      ∧ r.2.mem ((c.tc : Thread nD τ).loc main_v6) = (headScale fun b => ksOf (kIn (kArg m c) b) (offAt m c b))
      ∧ r.2.mem ((c.tc : Thread nD τ).loc main_v4_1) = (stackCodes fun b => vqOf (kIn (vArg m c) b))
      ∧ r.2.mem ((c.tc : Thread nD τ).loc main_v8) = (headScale fun b => vsOf (kIn (vArg m c) b))) := by
  refine (θ_run defs (onTc (τ := τ) (main (F := Ideal))) (s₀ m ρ)).mono (fun r h c => ⟨?_, ?_, ?_, ?_⟩) (run_main m ρ)
  · exact ((h c).1 3).trans (out_3 m c)
  · exact ((h c).2 main_v6 (by decide)).trans (tail_v6 m c)
  · exact ((h c).1 4).trans (out_4 m c)
  · exact ((h c).2 main_v8 (by decide)).trans (tail_v8 m c)

end Cert.Rope

end
-- ==== Proof.RefRead.lean ====
/-
  The arrays that the reference computes, as functions of its arguments.
-/
module

public import proofs.«01_k».proof.Proof.Gen.ReferenceIdeal.Run
public import Idealize.ShloMosaic.Lib.Claim
public import Idealize.ShloMosaic.Lib.StableHlo.Run
public import Idealize.ShloMosaic.Lib.Tactic
public import proofs.«01_k».proof.Proof.Scale

@[expose] public section

set_option maxHeartbeats 4000000
set_option maxRecDepth 65536

noncomputable section

namespace Cert.RopeRef

open Cert.ReferenceIdeal Cert.ReferenceIdeal.Gen
open Idealize.ShloMosaic Idealize.ShloMosaic.TcCoe Idealize.ShloMosaic.Tactic
open Idealize.ShloMosaic.Shape

/-- An argument, widened and split into heads. -/
def rK (a : FVec Ideal S9x2048x1024 .bf16) : FVec Ideal S9x2048x8x128 .f32 :=
  shapeCast S9x2048x8x128 (extf .f32 a bitsLt_bf16_f32) shapeCasts_S9x2048x1024_S9x2048x8x128

/-- A constant over the pairs, and one over the heads. -/
def cP (b : BitVec 32) : FVec Ideal S64 .f32 := broadcastInDim S64 ![] bcast_S_S64 (constant S_ .f32 b)
def cH (b : BitVec 32) : FVec Ideal S9x8 .f32 := broadcastInDim S9x8 ![] bcast_S_S9x8 (constant S_ .f32 b)

/-- The frequency of a pair. -/
def rFreq : FVec Ideal S64 .f32 :=
  Host.divf (cP 0x3F800000#32) (Host.powf (cP 0x461C4000#32)
    (Host.divf (addf (cP 0x00000000#32) (mulf (cP 0x40000000#32) (sitofp .f32 (iotaInDim S64 32 0)))) (cP 0x43000000#32)))

/-- The positions of a sequence. -/
def rPos (o : IVec S9 32) : FVec Ideal S9x2048 .f32 :=
  sitofp .f32 (addi (broadcastInDim S9x2048 ![0, 1] bcast_S9x1_S9x2048_0_1 (broadcastInDim S9x1 ![0] bcast_S9_S9x1_0 o))
    (broadcastInDim S9x2048 ![0, 1] bcast_S1x2048_S9x2048_0_1 (broadcastInDim S1x2048 ![1] bcast_S2048_S1x2048_1 (iotaInDim S2048 32 0))))

/-- The angles. -/
def rAng (o : IVec S9 32) : FVec Ideal S9x2048x1x64 .f32 :=
  mulf (broadcastInDim S9x2048x1x64 ![0, 1, 2, 3] bcast_S9x2048x1x1_S9x2048x1x64_0_1_2_3
      (broadcastInDim S9x2048x1x1 ![0, 1] bcast_S9x2048_S9x2048x1x1_0_1 (rPos o)))
    (broadcastInDim S9x2048x1x64 ![0, 1, 2, 3] bcast_S1x1x1x64_S9x2048x1x64_0_1_2_3
      (broadcastInDim S1x1x1x64 ![3] bcast_S64_S1x1x1x64_3 rFreq))

/-- The first and the second element of every pair. -/
def rFst (x : FVec Ideal S9x2048x8x128 .f32) : FVec Ideal S9x2048x8x64 .f32 :=
  shapeCast S9x2048x8x64 (extractStridedSlice S9x2048x8x64x1 ![0, 0, 0, 0, 0] (shapeCast S9x2048x8x64x2 x shapeCasts_S9x2048x8x128_S9x2048x8x64x2)
    slices_S9x2048x8x64x2_S9x2048x8x64x1_0_0_0_0_0) shapeCasts_S9x2048x8x64x1_S9x2048x8x64
def rSnd (x : FVec Ideal S9x2048x8x128 .f32) : FVec Ideal S9x2048x8x64 .f32 :=
  shapeCast S9x2048x8x64 (extractStridedSlice S9x2048x8x64x1 ![0, 0, 0, 0, 1] (shapeCast S9x2048x8x64x2 x shapeCasts_S9x2048x8x128_S9x2048x8x64x2)
    slices_S9x2048x8x64x2_S9x2048x8x64x1_0_0_0_0_1) shapeCasts_S9x2048x8x64x1_S9x2048x8x64

/-- A table over the heads. -/
def rTab (t : FVec Ideal S9x2048x1x64 .f32) : FVec Ideal S9x2048x8x64 .f32 :=
  broadcastInDim S9x2048x8x64 ![0, 1, 2, 3] bcast_S9x2048x1x64_S9x2048x8x64_0_1_2_3 t

def rOne (x : FVec Ideal S9x2048x8x64 .f32) : FVec Ideal S9x2048x8x64x1 .f32 :=
  broadcastInDim S9x2048x8x64x1 ![0, 1, 2, 3] bcast_S9x2048x8x64_S9x2048x8x64x1_0_1_2_3 x

/-- The pairs rotated. -/
def rLeft (x : FVec Ideal S9x2048x8x128 .f32) (o : IVec S9 32) : FVec Ideal S9x2048x8x64 .f32 :=
  subf (mulf (rFst x) (rTab (Host.cos (rAng o)))) (mulf (rSnd x) (rTab (Host.sin (rAng o))))
def rRight (x : FVec Ideal S9x2048x8x128 .f32) (o : IVec S9 32) : FVec Ideal S9x2048x8x64 .f32 :=
  addf (mulf (rSnd x) (rTab (Host.cos (rAng o)))) (mulf (rFst x) (rTab (Host.sin (rAng o))))

/-- Two arrays joined along a last axis of two. -/
def rCat (a b : FVec Ideal S9x2048x8x64x1 .f32) : FVec Ideal S9x2048x8x64x2 .f32 :=
  concatenate S9x2048x8x64x2 4 [⟨S9x2048x8x64x1, a⟩, ⟨S9x2048x8x64x1, b⟩] concatenates_S9x2048x8x64x1_S9x2048x8x64x1_S9x2048x8x64x2_d4

def rJoin (l r : FVec Ideal S9x2048x8x64 .f32) : FVec Ideal S9x2048x8x128 .f32 :=
  shapeCast S9x2048x8x128 (rCat (rOne l) (rOne r)) shapeCasts_S9x2048x8x64x2_S9x2048x8x128

def rRot (x : FVec Ideal S9x2048x8x128 .f32) (o : IVec S9 32) : FVec Ideal S9x2048x8x128 .f32 := rJoin (rLeft x o) (rRight x o)

/-- The largest magnitude of a sequence's head, over the largest code. -/
def rMax (y : FVec Ideal S9x2048x8x128 .f32) : FVec Ideal S9x8 .f32 :=
  mulf (Host.reduce FloatOps.maximumf (Host.absf y) (constant S_ .f32 0xFF800000#32) reducesTo_S9x2048x8x128_S9x8_d1_3 h_S_) (cH 0x3B124925#32)

/-- The exponent. -/
def rExp (mx : FVec Ideal S9x8 .f32) : FVec Ideal S9x8 .f32 :=
  select (cmpf .olt mx (cH 0x00800000#32)) (cH 0x00000000#32)
    (addf (Host.floor (Host.divf (Host.log mx) (broadcastInDim S9x8 ![] bcast_S_S9x8 (Host.log (constant S_ .f32 0x40000000#32))))) (cH 0x3F800000#32))

/-- The scale, and the codes before they are rounded. -/
def rSc (e : FVec Ideal S9x8 .f32) : FVec Ideal S9x8 .f32 := Host.powf (cH 0x40000000#32) e
def rCode (y : FVec Ideal S9x2048x8x128 .f32) (e : FVec Ideal S9x8 .f32) : FVec Ideal S9x2048x8x128 .f32 :=
  minimumf (broadcastInDim S9x2048x8x128 ![] bcast_S_S9x2048x8x128 (constant S_ .f32 0x43E00000#32))
    (maximumf (broadcastInDim S9x2048x8x128 ![] bcast_S_S9x2048x8x128 (constant S_ .f32 0xC3E00000#32))
      (mulf y (broadcastInDim S9x2048x8x128 ![0, 1, 2, 3] bcast_S9x1x8x1_S9x2048x8x128_0_1_2_3
        (broadcastInDim S9x1x8x1 ![0, 2] bcast_S9x8_S9x1x8x1_0_2 (Host.powf (cH 0x40000000#32) (Host.negf e))))))

variable (m : (ℓ : Loc nD τ sig) → Buf (Elt Ideal) ℓ)

def arg0 (c : Dev nD) : FVec Ideal S9x2048x1024 .bf16 := m ((c : Thread nD τ).loc main_arg0)
def arg1 (c : Dev nD) : FVec Ideal S9x2048x1024 .bf16 := m ((c : Thread nD τ).loc main_arg1)
def arg2 (c : Dev nD) : IVec S9 32 := m ((c : Thread nD τ).loc main_arg2)

end Cert.RopeRef

end
-- ==== Proof.RefValue.lean ====
/-
  The reference's arrays at an index: the rotated pairs, the largest magnitudes, the scales and the codes.
-/
module

public import proofs.«01_k».proof.Proof.RefRead
public import proofs.«01_k».proof.Proof.KernelOut
public import Idealize.ShloMosaic.Lib.IdealHost
public import Idealize.ShloMosaic.Lib.Pointwise

@[expose] public section

set_option maxHeartbeats 4000000
set_option maxRecDepth 65536

noncomputable section

namespace Cert.RopeRef

open Cert.ReferenceIdeal Cert.ReferenceIdeal.Gen
open Cert.Rope (elt kIn at3_kIn at3 ab amax amax_le mOf rot swapLane tabC tabS tabC_ix2 tabS_ix2 cosT sinT fr sg clampE rExpo rScale rInv ofBits_one ofBits_zero ofBits_two ofBits_bot ieee_normal)
open Idealize.ShloMosaic Idealize.ShloMosaic.TcCoe Idealize.ShloMosaic.Tactic

theorem rK_at (a : FVec Ideal S9x2048x1024 .bf16) (b : Fin 9) (s : Fin 2048) (h : Fin 8) (l : Fin 128) :
    rK a (ix4 b s h l) = elt a b s h l := by
  refine (shapeCast_apply _ _ (ix4 b s h l) (ix3 b s ⟨128 * h.val + l.val, by omega⟩) ?_).trans rfl
  rw [Shape.rowMajor_val_four, Shape.rowMajor_val_three]
  show (b.val * 2048 + s.val) * 1024 + (128 * h.val + l.val) = ((b.val * 2048 + s.val) * 8 + h.val) * 128 + l.val
  omega

theorem ev_lt (p : Fin 64) : 2 * p.val < 128 := by omega
theorem od_lt (p : Fin 64) : 2 * p.val + 1 < 128 := by omega
/-- The two lanes of a pair. -/
def ev (p : Fin 64) : Fin 128 := ⟨2 * p.val, ev_lt p⟩
def od (p : Fin 64) : Fin 128 := ⟨2 * p.val + 1, od_lt p⟩

/-- The lane of a pair as the split array's index, and back. -/
theorem pair_rm (b : Fin 9) (s : Fin 2048) (h : Fin 8) (p : Fin 64) (e : Fin 2) (l : Fin 128) (hl : l.val = 2 * p.val + e.val) :
    (S9x2048x8x64x2.rowMajor (ValueIdx.ix5 b s h p e)).val = (S9x2048x8x128.rowMajor (ix4 b s h l)).val := by
  rw [Shape.rowMajor_val_five, Shape.rowMajor_val_four]
  show (((b.val * 2048 + s.val) * 8 + h.val) * 64 + p.val) * 2 + e.val = ((b.val * 2048 + s.val) * 8 + h.val) * 128 + l.val
  omega

theorem one_rm (b : Fin 9) (s : Fin 2048) (h : Fin 8) (p : Fin 64) :
    (S9x2048x8x64x1.rowMajor (ValueIdx.ix5 b s h p (0 : Fin 1))).val = (S9x2048x8x64.rowMajor (ix4 b s h p)).val := by
  rw [Shape.rowMajor_val_five, Shape.rowMajor_val_four]
  show (((b.val * 2048 + s.val) * 8 + h.val) * 64 + p.val) * 1 + 0 = ((b.val * 2048 + s.val) * 8 + h.val) * 64 + p.val
  omega

theorem rFst_at (x : FVec Ideal S9x2048x8x128 .f32) (b : Fin 9) (s : Fin 2048) (h : Fin 8) (p : Fin 64) :
    rFst x (ix4 b s h p) = x (ix4 b s h (ev p)) := by
  refine (shapeCast_apply _ _ (ix4 b s h p) (ValueIdx.ix5 b s h p (0 : Fin 1)) (one_rm b s h p)).trans ?_
  refine (extractStridedSlice_apply _ _ _ (ValueIdx.ix5 b s h p (0 : Fin 1)) (ValueIdx.ix5 b s h p (0 : Fin 2)) (by
    intro a; fin_cases a <;> first | rfl | exact (Nat.zero_add _).symm)).trans ?_
  exact shapeCast_apply _ _ _ (ix4 b s h (ev p)) (pair_rm b s h p 0 (ev p) rfl).symm

theorem rSnd_at (x : FVec Ideal S9x2048x8x128 .f32) (b : Fin 9) (s : Fin 2048) (h : Fin 8) (p : Fin 64) :
    rSnd x (ix4 b s h p) = x (ix4 b s h (od p)) := by
  refine (shapeCast_apply _ _ (ix4 b s h p) (ValueIdx.ix5 b s h p (0 : Fin 1)) (one_rm b s h p)).trans ?_
  refine (extractStridedSlice_apply _ _ _ (ValueIdx.ix5 b s h p (0 : Fin 1)) (ValueIdx.ix5 b s h p (1 : Fin 2)) (by
    intro a; fin_cases a <;> first | rfl | exact (Nat.zero_add _).symm)).trans ?_
  exact shapeCast_apply _ _ _ (ix4 b s h (od p)) (pair_rm b s h p 1 (od p) rfl).symm

theorem rOne_at (x : FVec Ideal S9x2048x8x64 .f32) (b : Fin 9) (s : Fin 2048) (h : Fin 8) (p : Fin 64) :
    rOne x (ValueIdx.ix5 b s h p (0 : Fin 1)) = x (ix4 b s h p) :=
  broadcastInDim_apply _ _ _ _ (ix4 b s h p) (by intro a; fin_cases a <;> rfl)

theorem rJoin_ev (l r : FVec Ideal S9x2048x8x64 .f32) (b : Fin 9) (s : Fin 2048) (h : Fin 8) (p : Fin 64) :
    rJoin l r (ix4 b s h (ev p)) = l (ix4 b s h p) := by
  refine (shapeCast_apply _ _ _ (ValueIdx.ix5 b s h p (0 : Fin 2)) (pair_rm b s h p 0 (ev p) rfl)).trans ?_
  refine (concatenate_pair_apply_left (t := S9x2048x8x64x2) (s₁ := S9x2048x8x64x1) (s₂ := S9x2048x8x64x1) (4 : Fin 5) (rOne l) (rOne r) _ _ rfl (ValueIdx.ix5 b s h p (0 : Fin 1)) (by intro a; fin_cases a <;> rfl)).trans (rOne_at l b s h p)

theorem rJoin_od (l r : FVec Ideal S9x2048x8x64 .f32) (b : Fin 9) (s : Fin 2048) (h : Fin 8) (p : Fin 64) :
    rJoin l r (ix4 b s h (od p)) = r (ix4 b s h p) := by
  refine (shapeCast_apply _ _ _ (ValueIdx.ix5 b s h p (1 : Fin 2)) (pair_rm b s h p 1 (od p) rfl)).trans ?_
  refine (concatenate_pair_apply_right (t := S9x2048x8x64x2) (s₁ := S9x2048x8x64x1) (s₂ := S9x2048x8x64x1) (4 : Fin 5) (rOne l) (rOne r) _ _ rfl rfl (ValueIdx.ix5 b s h p (0 : Fin 1)) (by intro a; fin_cases a <;> first | (intro _; rfl) | (intro hh; exact absurd rfl hh)) rfl).trans (rOne_at r b s h p)

theorem rTab_at (t : FVec Ideal S9x2048x1x64 .f32) (b : Fin 9) (s : Fin 2048) (h : Fin 8) (p : Fin 64) :
    rTab t (ix4 b s h p) = t (ix4 b s (0 : Fin 1) p) :=
  broadcastInDim_apply _ _ _ _ (ix4 b s (0 : Fin 1) p) (by intro a; fin_cases a <;> rfl)

/-! ## The angles -/

theorem fr_pair (p : Fin 64) (l : Fin 128) (hl : l.val / 2 = p.val) : fr l = (10000 : ℝ) ^ (-(p.val : ℝ) / 64) := by
  unfold fr
  rw [hl]

theorem ofBits_1e4 : Ideal.ofBits .f32 0x461C4000#32 = ((10000 : ℝ) : EReal) := by
  refine (ieee_normal 8 23 0x461C4000#32 false 140 1851392 rfl rfl rfl (by norm_num) (by norm_num)).trans ?_
  norm_num

theorem ofBits_128 : Ideal.ofBits .f32 0x43000000#32 = ((128 : ℝ) : EReal) := by
  refine (ieee_normal 8 23 0x43000000#32 false 134 0 rfl rfl rfl (by norm_num) (by norm_num)).trans ?_
  norm_num

theorem rFreq_at (p : Fin 64) : rFreq (ix1 p) = (((10000 : ℝ) ^ (-(p.val : ℝ) / 64) : ℝ) : EReal) := by
  have h1 : (BitVec.ofNat 32 p.val).toInt = (p.val : ℤ) := by
    revert p; decide +kernel
  have e : rFreq (ix1 p) = Ideal.div (Ideal.ofBits .f32 0x3F800000#32) (Ideal.pow (Ideal.ofBits .f32 0x461C4000#32)
      (Ideal.div (Ideal.ofBits .f32 0x00000000#32 + Ideal.ofBits .f32 0x40000000#32 * (((BitVec.ofNat 32 p.val).toInt : ℝ) : EReal)) (Ideal.ofBits .f32 0x43000000#32))) := rfl
  rw [e, h1, ofBits_one, ofBits_1e4, ofBits_zero, ofBits_two, ofBits_128, ← EReal.coe_mul, ← EReal.coe_add, Ideal.div_coe (by norm_num), ← EReal.coe_mul,
    Ideal.pow_coe_coe, Real.rpow_eq_pow, Ideal.div_coe (Real.rpow_pos_of_pos (by norm_num) _).ne', ← EReal.coe_mul]
  refine congrArg (fun r : ℝ => (r : EReal)) ?_
  rw [one_mul, one_div, ← Real.rpow_neg (by norm_num)]
  congr 1
  push_cast
  ring

theorem pos_row (o : IVec S9 32) (b : Fin 9) (s : Fin 2048) :
    broadcastInDim S9x2048 ![0, 1] bcast_S9x1_S9x2048_0_1 (broadcastInDim S9x1 ![0] bcast_S9_S9x1_0 o) (ix2 b s) = o (ix1 b) :=
  (broadcastInDim_apply _ _ _ _ (ix2 b (0 : Fin 1)) (by intro a; fin_cases a <;> rfl)).trans
    (broadcastInDim_apply _ _ _ _ (ix1 b) (by intro a; fin_cases a; rfl))

theorem pos_col (b : Fin 9) (s : Fin 2048) :
    broadcastInDim S9x2048 ![0, 1] bcast_S1x2048_S9x2048_0_1 (broadcastInDim S1x2048 ![1] bcast_S2048_S1x2048_1 (iotaInDim S2048 32 0)) (ix2 b s) = BitVec.ofNat 32 s.val :=
  (broadcastInDim_apply _ _ _ _ (ix2 (0 : Fin 1) s) (by intro a; fin_cases a <;> rfl)).trans
    (broadcastInDim_apply _ _ _ _ (ix1 s) (by intro a; fin_cases a; rfl))

theorem rPos_at (o : IVec S9 32) (b : Fin 9) (s : Fin 2048) (ho : (o (ix1 b)).toInt ≤ 2147481600) :
    rPos o (ix2 b s) = ((((o (ix1 b)).toInt : ℝ) + (s.val : ℝ) : ℝ) : EReal) := by
  have e : rPos o (ix2 b s) = (((o (ix1 b) + BitVec.ofNat 32 s.val).toInt : ℝ) : EReal) := by
    rw [← pos_row o b s, ← pos_col b s]
    rfl
  have h1 : (BitVec.ofNat 32 s.val).toInt = (s.val : ℤ) := by
    rw [BitVec.toInt_ofNat']
    have := s.isLt
    rw [Int.bmod_def]; split_ifs <;> omega
  rw [e, BitVec.toInt_add, h1]
  have h2 := (o (ix1 b)).le_toInt
  have : ((o (ix1 b)).toInt + (s.val : ℤ)).bmod (2 ^ 32) = (o (ix1 b)).toInt + (s.val : ℤ) := by
    have := s.isLt
    norm_num at h2
    rw [Int.bmod_def]; split_ifs <;> omega
  rw [this]
  push_cast
  rfl

theorem rAng_at (o : IVec S9 32) (b : Fin 9) (s : Fin 2048) (p : Fin 64) : rAng o (ix4 b s (0 : Fin 1) p) = rPos o (ix2 b s) * rFreq (ix1 p) := by
  refine congrArg₂ (fun x y : EReal => x * y) ?_ ?_
  · exact (broadcastInDim_apply _ _ _ _ (ix4 b s (0 : Fin 1) (0 : Fin 1)) (by intro a; fin_cases a <;> rfl)).trans
      (broadcastInDim_apply _ _ _ _ (ix2 b s) (by intro a; fin_cases a <;> rfl))
  · exact (broadcastInDim_apply _ _ _ _ (ix4 (0 : Fin 1) (0 : Fin 1) (0 : Fin 1) p) (by intro a; fin_cases a <;> rfl)).trans
      (broadcastInDim_apply _ _ _ _ (ix1 p) (by intro a; fin_cases a; rfl))

/-- The position of a row, and the two tables there. -/
theorem cos_ref (o : IVec S9 32) (b : Fin 9) (s : Fin 2048) (h : Fin 8) (p : Fin 64) (l : Fin 128) (hl : l.val / 2 = p.val) (ho : (o (ix1 b)).toInt ≤ 2147481600) :
    rTab (Host.cos (rAng o)) (ix4 b s h p) = cosT (((o (ix1 b)).toInt : ℝ) + (s.val : ℝ)) l := by
  rw [rTab_at]
  refine (congrArg Ideal.cos ((rAng_at o b s p).trans (congrArg₂ (fun x y : EReal => x * y) (rPos_at o b s ho) (rFreq_at p)))).trans ?_
  show Ideal.cos (((_ : ℝ) : EReal) * ((_ : ℝ) : EReal)) = _
  rw [← EReal.coe_mul, Ideal.cos_coe, ← fr_pair p l hl]
  rfl

theorem sin_ref (o : IVec S9 32) (b : Fin 9) (s : Fin 2048) (h : Fin 8) (p : Fin 64) (l : Fin 128) (hl : l.val / 2 = p.val) (ho : (o (ix1 b)).toInt ≤ 2147481600) :
    rTab (Host.sin (rAng o)) (ix4 b s h p) = ((Real.sin ((((o (ix1 b)).toInt : ℝ) + (s.val : ℝ)) * fr l) : ℝ) : EReal) := by
  rw [rTab_at]
  refine (congrArg Ideal.sin ((rAng_at o b s p).trans (congrArg₂ (fun x y : EReal => x * y) (rPos_at o b s ho) (rFreq_at p)))).trans ?_
  show Ideal.sin (((_ : ℝ) : EReal) * ((_ : ℝ) : EReal)) = _
  rw [← EReal.coe_mul, Ideal.sin_coe, ← fr_pair p l hl]

/-! ## The rotated pairs -/

theorem lane_cases (l : Fin 128) : (∃ p, l = ev p) ∨ ∃ p, l = od p := by
  have := l.isLt
  by_cases h : l.val % 2 = 0
  · exact .inl ⟨⟨l.val / 2, by omega⟩, Fin.ext (by show l.val = 2 * (l.val / 2); omega)⟩
  · exact .inr ⟨⟨l.val / 2, by omega⟩, Fin.ext (by show l.val = 2 * (l.val / 2) + 1; omega)⟩

theorem swap_ev (p : Fin 64) : swapLane (ev p) = od p := by revert p; decide +kernel
theorem swap_od (p : Fin 64) : swapLane (od p) = ev p := by revert p; decide +kernel
theorem sg_ev (p : Fin 64) : sg (ev p) = -1 := if_pos (by show 2 * p.val % 2 = 0; omega)
theorem sg_od (p : Fin 64) : sg (od p) = 1 := if_neg (by show ¬ (2 * p.val + 1) % 2 = 0; omega)

theorem rot_at (a : FVec Ideal S9x2048x1024 .bf16) (o : IVec S9 32) (b : Fin 9) (s : Fin 2048) (h : Fin 8) (l : Fin 128)
    (ho : (o (ix1 b)).toInt ≤ 2147481600) :
    rRot (rK a) o (ix4 b s h l) = rot (kIn a b) (tabC ((o (ix1 b)).toInt : ℝ)) (tabS ((o (ix1 b)).toInt : ℝ)) s h l := by
  unfold rot
  rw [tabC_ix2, tabS_ix2, at3_kIn, at3_kIn]
  unfold rRot
  rcases lane_cases l with ⟨p, rfl⟩ | ⟨p, rfl⟩
  · rw [rJoin_ev, swap_ev]
    show rFst (rK a) (ix4 b s h p) * rTab (Host.cos (rAng o)) (ix4 b s h p) - rSnd (rK a) (ix4 b s h p) * rTab (Host.sin (rAng o)) (ix4 b s h p) = _
    rw [rFst_at, rSnd_at, rK_at, rK_at, cos_ref o b s h p (ev p) (by show 2 * p.val / 2 = p.val; omega) ho,
      sin_ref o b s h p (ev p) (by show 2 * p.val / 2 = p.val; omega) ho, sinT, sg_ev, neg_one_mul, EReal.coe_neg, mul_neg, ← sub_eq_add_neg]
  · rw [rJoin_od, swap_od]
    show rSnd (rK a) (ix4 b s h p) * rTab (Host.cos (rAng o)) (ix4 b s h p) + rFst (rK a) (ix4 b s h p) * rTab (Host.sin (rAng o)) (ix4 b s h p) = _
    rw [rFst_at, rSnd_at, rK_at, rK_at, cos_ref o b s h p (od p) (by show (2 * p.val + 1) / 2 = p.val; omega) ho,
      sin_ref o b s h p (od p) (by show (2 * p.val + 1) / 2 = p.val; omega) ho, sinT, sg_od, one_mul]

/-! ## The largest magnitudes, the scales and the codes -/

theorem drop_iff (b b' : Fin 9) (h h' : Fin 8) (s : Fin 2048) (l : Fin 128) :
    reducesTo_S9x2048x8x128_S9x8_d1_3.drop (ix4 b' s h' l) = ix2 b h ↔ b' = b ∧ h' = h := by
  have e : reducesTo_S9x2048x8x128_S9x8_d1_3.drop (ix4 b' s h' l) = ix2 b' h' := by
    funext a; fin_cases a <;> rfl
  rw [e]
  constructor
  · intro hh; exact ⟨congrFun hh 0, congrFun hh 1⟩
  · rintro ⟨rfl, rfl⟩; rfl

/-- A largest value is below a bound when the start and every element that is reduced to it are. -/
theorem reduce_max_le {s u t : Shape} {axes : List (Fin s.rank)} (x : FVec Ideal s .f32) (init : FVec Ideal u .f32) (h : s.ReducesTo axes t)
    (hu : 0 < u.numel) (j : t.Idx) (z : EReal) :
    (Host.reduce (FloatOps.maximumf (F := Ideal) (φ := .f32)) x init h hu j : Ideal .f32) ≤ z ↔ init (Shape.Idx.first hu) ≤ z ∧ ∀ i, h.drop i = j → x i ≤ z := by
  have e : (Host.reduce (FloatOps.maximumf (F := Ideal) (φ := .f32)) x init h hu j : Ideal .f32) = Host.reduce (max : EReal → EReal → EReal) x init h hu j := rfl
  rw [e, Host.reduce_eq_fold, Finset.fold_max_le]
  exact and_congr_right fun _ => ⟨fun hh i hi => hh i (Finset.mem_filter.2 ⟨Finset.mem_univ _, hi⟩), fun hh i hi => hh i (Finset.mem_filter.1 hi).2⟩

theorem mul_at (x : FVec Ideal S9x8 .f32) (j : S9x8.Idx) : (mulf x (cH 0x3B124925#32) : FVec Ideal S9x8 .f32) j = mOf (x j) := rfl

theorem rMax_at (y : FVec Ideal S9x2048x8x128 .f32) (b : Fin 9) (h : Fin 8) :
    rMax y (ix2 b h) = mOf (amax (fun s h l => y (ix4 b s h l)) h) := by
  have key : ∀ z : EReal, (Host.reduce (FloatOps.maximumf (F := Ideal) (φ := .f32)) (Host.absf y) (constant (F := Ideal) S_ .f32 0xFF800000#32) reducesTo_S9x2048x8x128_S9x8_d1_3 h_S_ (ix2 b h) : Ideal .f32) ≤ z
      ↔ amax (fun s h l => y (ix4 b s h l)) h ≤ z := by
    intro z
    rw [reduce_max_le, amax_le]
    constructor
    · intro hh s l
      exact hh.2 (ix4 b s h l) ((drop_iff b b h h s l).2 ⟨rfl, rfl⟩)
    · intro hh
      refine ⟨le_trans (le_of_eq ofBits_bot) bot_le, fun x => ?_⟩
      change (⟨4, ![9, 2048, 8, 128]⟩ : Shape).Idx at x
      suffices key : ∀ (b' : Fin 9) (s : Fin 2048) (h' : Fin 8) (l : Fin 128), reducesTo_S9x2048x8x128_S9x8_d1_3.drop (ix4 b' s h' l) = ix2 b h → ab (y (ix4 b' s h' l)) ≤ z by
        idx_vars x
        exact key _ _ _ _
      intro b' s h' l hd
      obtain ⟨rfl, rfl⟩ := (drop_iff b b' h h' s l).1 hd
      exact hh s l
  unfold rMax
  rw [mul_at]
  exact congrArg mOf (eq_of_forall_ge_iff key)

theorem rExp_at (mx : FVec Ideal S9x8 .f32) (b : Fin 9) (h : Fin 8) : rExp mx (ix2 b h) = rExpo (mx (ix2 b h)) := rfl

theorem rSc_at (mx : FVec Ideal S9x8 .f32) (b : Fin 9) (h : Fin 8) : rSc (rExp mx) (ix2 b h) = rScale (mx (ix2 b h)) := rfl

theorem rCode_at (y : FVec Ideal S9x2048x8x128 .f32) (mx : FVec Ideal S9x8 .f32) (b : Fin 9) (s : Fin 2048) (h : Fin 8) (l : Fin 128) :
    rCode y (rExp mx) (ix4 b s h l) = clampE (y (ix4 b s h l) * rInv (mx (ix2 b h))) := by
  refine congrArg (fun r : EReal => clampE (y (ix4 b s h l) * r)) ?_
  refine ((broadcastInDim_apply _ _ _ _ (ix4 b (0 : Fin 1) h (0 : Fin 1)) (by intro a; fin_cases a <;> rfl)).trans
    (broadcastInDim_apply _ _ _ _ (ix2 b h) (by intro a; fin_cases a <;> rfl))).trans rfl

end Cert.RopeRef

end
-- ==== Proof.RefOut.lean ====
/-
  The reference's run: its four results, its arguments as they were and its semaphores at zero.
-/
module

public import proofs.«01_k».proof.Proof.RefValue

@[expose] public section

set_option maxHeartbeats 4000000
set_option maxRecDepth 65536

noncomputable section

namespace Cert.RopeRef

open Cert.ReferenceIdeal Cert.ReferenceIdeal.Gen
open Idealize.ShloMosaic Idealize.ShloMosaic.TcCoe Idealize.SL.Sem

/-- The rounding of the codes to fp8 leaves them as they are over the reals. -/
theorem round_codes (x : FVec Ideal S9x2048x8x128 .f32) : (Host.convertf .fp8e4m3 x : FVec Ideal S9x2048x8x128 .fp8e4m3) = x := rfl

variable (m : (ℓ : Loc nD τ sig) → Buf (Elt Ideal) ℓ) (ρ : Dev nD → PrngReg)

theorem k_codes_eq (c : Dev nD) : Value.res_out0 m c = rCode (rRot (rK (arg0 m c)) (arg2 m c)) (rExp (rMax (rRot (rK (arg0 m c)) (arg2 m c)))) :=
  (round_codes (rCode (rRot (rK (arg0 m c)) (arg2 m c)) (rExp (rMax (rRot (rK (arg0 m c)) (arg2 m c))))))

theorem k_scales_eq (c : Dev nD) : Value.res_out1 m c = rSc (rExp (rMax (rRot (rK (arg0 m c)) (arg2 m c)))) := rfl

/-- The reference's run: its four results. -/
theorem run_values :
    θ_run defs (onTc (τ := τ) (main (F := Ideal))) ⟨m, fun _ => 0, ρ⟩ (fun r => ∀ c : Dev nD,
      r.2.mem ((c.tc : Thread nD τ).loc main_v73_0) = rCode (rRot (rK (arg0 m c)) (arg2 m c)) (rExp (rMax (rRot (rK (arg0 m c)) (arg2 m c))))
      ∧ r.2.mem ((c.tc : Thread nD τ).loc main_v73_1) = rSc (rExp (rMax (rRot (rK (arg0 m c)) (arg2 m c))))
      ∧ r.2.mem ((c.tc : Thread nD τ).loc main_v99_0) = rCode (rK (arg1 m c)) (rExp (rMax (rK (arg1 m c))))
      ∧ r.2.mem ((c.tc : Thread nD τ).loc main_v99_1) = rSc (rExp (rMax (rK (arg1 m c))))) :=
  (θ_run defs _ _).mono (fun _ h c => ⟨(h c).1.trans (k_codes_eq m c), (h c).2.1.trans (k_scales_eq m c),
    (h c).2.2.1.trans (round_codes (rCode (rK (arg1 m c)) (rExp (rMax (rK (arg1 m c)))))), (h c).2.2.2.1⟩) (Value.run m ρ)

/-- The reference ends with its arguments as they were and every semaphore at zero. -/
theorem frame :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_eq_zero_of_no_sems (by decide) r.2⟩) (Value.run m ρ)

end Cert.RopeRef

end
-- ==== Proof.Bounds.lean ====
/-
  What the precondition gives at an element, and that a head's number then lies where the kernel's search for its
  power of two is exact.
-/
module

public import proofs.«01_k».proof.Pre_finite_and_in_range
public import proofs.«01_k».proof.Proof.KernelOut
public import Idealize.ShloMosaic.Lib.ReduceAll

@[expose] public section

set_option maxHeartbeats 4000000
set_option maxRecDepth 65536

noncomputable section

namespace Cert.Rope

open Idealize.ShloMosaic Idealize.ShloMosaic.Tactic

/-! ## The precondition at an element -/

section
open Cert.Pre_finite_and_in_range
variable [Cert.Pre_finite_and_in_range.Facts]

theorem and_one (a b : BitVec 1) : IntOp.andi a b = 1#1 → a = 1#1 ∧ b = 1#1 := by
  revert a b; decide

/-- The largest finite bf16 number. -/
def big : EReal := Ideal.ofBits .f32 0x7F7F0000#32

theorem ole_one {x y : EReal} (h : Ideal.cmp .ole x y = 1#1) : x ≤ y := by
  by_contra hc
  rw [show Ideal.cmp .ole x y = BitVec.ofBool (decide (x ≤ y)) from rfl, decide_eq_false hc] at h
  exact absurd h (by decide)

theorem sle_one {x y : BitVec 32} (h : IntOp.cmpi .sle x y = 1#1) : x.toInt ≤ y.toInt := by
  by_contra hc
  rw [show IntOp.cmpi .sle x y = BitVec.ofBool (BitVec.sle x y) from rfl, BitVec.sle, decide_eq_false hc] at h
  exact absurd h (by decide)

theorem pre_at (k v : S9x2048x1024.Idx → EReal) (o : S9.Idx → BitVec 32) (h : fn (F := Ideal) k v o = fun _ => 1#1) :
    (∀ i, ab (k i) ≤ big) ∧ (∀ i, ab (v i) ≤ big) ∧ ∀ i, (o i).toInt ≤ 2147481600 := by
  unfold fn at h
  dsimp only at h
  obtain ⟨h1, h3⟩ := and_one _ _ (congrFun h ValueIdx.ix0)
  obtain ⟨h1, h2⟩ := and_one _ _ h1
  refine ⟨fun i => ole_one ?_, fun i => ole_one ?_, fun i => le_trans (sle_one ?_) (le_of_eq (by decide : (2147481600#32 : BitVec 32).toInt = 2147481600))⟩
  · exact Host.reduce_andi_all _ _ _ _ _ h1 i
  · exact Host.reduce_andi_all _ _ _ _ _ h2 i
  · exact Host.reduce_andi_all _ _ _ _ _ h3 i
end

/-! ## The bound -/

theorem big_real : ∃ β : ℝ, big = (β : EReal) ∧ 0 ≤ β ∧ β < 2 ^ (128 : ℤ) := by
  refine ⟨_, ieee_normal 8 23 (0x7F7F0000#32) false 254 8323072 rfl rfl rfl (by norm_num) (by norm_num), ?_, ?_⟩ <;> norm_num

theorem ab_coe (r : ℝ) : ab (r : EReal) = ((|r| : ℝ) : EReal) :=
  (EReal.coe_strictMono.monotone.map_max (a := r) (b := -r)).symm

theorem real_of_ab {x : EReal} {β : ℝ} (h : ab x ≤ (β : EReal)) : ∃ r : ℝ, x = (r : EReal) ∧ |r| ≤ β := by
  induction x with
  | bot => exact absurd h (by unfold ab; simp)
  | top => exact absurd h (by unfold ab; simp)
  | coe r =>
    refine ⟨r, rfl, ?_⟩
    rw [ab_coe, EReal.coe_le_coe_iff] at h
    exact h

theorem cosT_real (n : ℝ) (l : Fin 128) : ∃ r : ℝ, cosT n l = (r : EReal) ∧ |r| ≤ 1 := ⟨_, rfl, Real.abs_cos_le_one _⟩

theorem sinT_real (n : ℝ) (l : Fin 128) : ∃ r : ℝ, sinT n l = (r : EReal) ∧ |r| ≤ 1 := by
  refine ⟨_, rfl, ?_⟩
  rw [abs_mul]
  have : |sg l| = 1 := by
    unfold sg; split_ifs <;> norm_num
  rw [this, one_mul]
  exact Real.abs_sin_le_one _

/-- A head's number is below `2¹²³` when the elements are at most twice the largest finite bf16 number. -/
theorem mOf_lt (y : Fin 2048 → Fin 8 → Fin 128 → EReal) (h : Fin 8) {β : ℝ} (h0 : 0 ≤ β) (hβ : β < 2 ^ (129 : ℤ)) (hy : ∀ p l, ab (y p h l) ≤ (β : EReal)) :
    mOf (amax y h) < pw 250#32 := by
  obtain ⟨r, hr, hr0, hr1⟩ := ofBits_recip
  have hp : pw 250#32 = (((2 : ℝ) ^ (((250 : ℕ) : ℤ) - 127) : ℝ) : EReal) := pw_of (t := 250) (by omega) (by omega)
  unfold mOf
  rw [hr, hp]
  refine lt_of_le_of_lt (mul_le_mul_of_nonneg_right ((amax_le y h _).2 hy) (EReal.coe_nonneg.2 hr0.le)) ?_
  rw [← EReal.coe_mul, EReal.coe_lt_coe_iff]
  refine lt_of_le_of_lt (mul_le_mul hβ.le hr1.le hr0.le (by positivity)) ?_
  norm_num

theorem mOf_nonneg (y : Fin 2048 → Fin 8 → Fin 128 → EReal) (h : Fin 8) : 0 ≤ mOf (amax y h) := by
  obtain ⟨r, hr, hr0, hr1⟩ := ofBits_recip
  unfold mOf
  rw [hr]
  exact mul_nonneg (amax_nonneg y h) (EReal.coe_nonneg.2 hr0.le)

/-- The elements of the second operand, and the rotated elements of the first. -/
theorem v_lt (a : Cert.KernelIdeal.S9x2048x1024.Idx → EReal) (ha : ∀ i, ab (a i) ≤ big) (b : Fin 9) (h : Fin 8) : mOf (amax (at3 (kIn a b)) h) < pw 250#32 := by
  obtain ⟨β, hβ, h0, h1⟩ := big_real
  refine mOf_lt _ h h0 (lt_trans h1 (by norm_num)) fun p l => ?_
  rw [at3_kIn, ← hβ]
  exact ha _

theorem k_lt (a : Cert.KernelIdeal.S9x2048x1024.Idx → EReal) (ha : ∀ i, ab (a i) ≤ big) (b : Fin 9) (n : ℝ) (h : Fin 8) :
    mOf (amax (rot (kIn a b) (tabC n) (tabS n)) h) < pw 250#32 := by
  obtain ⟨β, hβ, h0, h1⟩ := big_real
  have h2 : β + β < 2 ^ (129 : ℤ) := by
    have : (2 : ℝ) ^ (129 : ℤ) = 2 ^ (128 : ℤ) + 2 ^ (128 : ℤ) := by norm_num
    rw [this]; exact add_lt_add h1 h1
  refine mOf_lt _ h (add_nonneg h0 h0) h2 fun p l => ?_
  unfold rot
  rw [tabC_ix2, tabS_ix2, at3_kIn, at3_kIn]
  obtain ⟨x, hx, hx1⟩ := real_of_ab (hβ ▸ ha _ : ab (elt a b p h l) ≤ _)
  obtain ⟨x', hx', hx1'⟩ := real_of_ab (hβ ▸ ha _ : ab (elt a b p h (swapLane l)) ≤ _)
  obtain ⟨u, hu, hu1⟩ := cosT_real (n + (p.val : ℝ)) l
  obtain ⟨w, hw, hw1⟩ := sinT_real (n + (p.val : ℝ)) l
  rw [hx, hx', hu, hw, ← EReal.coe_mul, ← EReal.coe_mul, ← EReal.coe_add, ab_coe, EReal.coe_le_coe_iff]
  refine (abs_add_le _ _).trans (add_le_add ?_ ?_)
  · rw [abs_mul]
    exact (mul_le_mul hx1 hu1 (abs_nonneg _) h0).trans (le_of_eq (mul_one β))
  · rw [abs_mul]
    exact (mul_le_mul hx1' hw1 (abs_nonneg _) h0).trans (le_of_eq (mul_one β))

end Cert.Rope

end
-- ==== Proof.Algebraic.lean ====
/-
  The kernel and the reference leave the same codes and the same scales.
-/
module

public import proofs.«01_k».proof.Defs
public import proofs.«01_k».proof.Proof.KernelIdealBody
public import proofs.«01_k».proof.Proof.KernelValue
public import proofs.«01_k».proof.Proof.RefOut
public import proofs.«01_k».proof.Proof.Bounds
public import proofs.«01_k».proof.Proof.Gen.Pre_finite_and_in_range

@[expose] public section

set_option maxHeartbeats 4000000
set_option maxRecDepth 65536

noncomputable section

namespace Cert.RopeEq

open Idealize.ShloMosaic Idealize.ShloMosaic.TcCoe Idealize.ShloMosaic.Tactic
open Cert.KernelIdeal (S9x2048x1024 S9x2048x8x128 S9x8 S9 S1x2048x8x128 S1x8x128)
open Cert.Rope (kIn at3 at3_kIn ab big amax mOf mOf_nonneg rot tabC tabS kqOf ksOf vqOf vsOf codes clampE stackCodes headScale kScale kInv rScale rInv scale_eq inv_eq k_lt v_lt)
open Cert.RopeRef (rK rRot rMax rExp rSc rCode rK_at rot_at rMax_at rSc_at rCode_at)

/-- Two arrays of codes, and two of scales, are equal when they are at every index. -/
theorem codes_ext {x y : S9x2048x8x128.Idx → EReal} (h : ∀ (b : Fin 9) (s : Fin 2048) (g : Fin 8) (l : Fin 128), x (ix4 b s g l) = y (ix4 b s g l)) : x = y := by
  refine funext fun j => ?_
  change (⟨4, ![9, 2048, 8, 128]⟩ : Shape).Idx at j
  idx_vars j
  exact h _ _ _ _

theorem scales_ext {x y : S9x8.Idx → EReal} (h : ∀ (b : Fin 9) (g : Fin 8), x (ix2 b g) = y (ix2 b g)) : x = y := by
  refine funext fun j => ?_
  change (⟨2, ![9, 8]⟩ : Shape).Idx at j
  idx_vars j
  exact h _ _

/-- A head's number, as the reference and as the kernel have it. -/
theorem max_v (a : S9x2048x1024.Idx → EReal) (b : Fin 9) (g : Fin 8) : rMax (rK a) (ix2 b g) = mOf (amax (at3 (kIn a b)) g) := by
  rw [rMax_at]
  refine congrArg (fun y => mOf (amax y g)) (funext fun s => funext fun h => funext fun l => ?_)
  rw [rK_at, at3_kIn]

theorem max_k (a : S9x2048x1024.Idx → EReal) (o : S9.Idx → BitVec 32) (b : Fin 9) (g : Fin 8) (ho : (o (ix1 b)).toInt ≤ 2147481600) :
    rMax (rRot (rK a) o) (ix2 b g) = mOf (amax (rot (kIn a b) (tabC ((o (ix1 b)).toInt : ℝ)) (tabS ((o (ix1 b)).toInt : ℝ))) g) := by
  rw [rMax_at]
  exact congrArg (fun y => mOf (amax y g)) (funext fun s => funext fun h => funext fun l => rot_at a o b s h l ho)

theorem v_codes (a : S9x2048x1024.Idx → EReal) (ha : ∀ i, ab (a i) ≤ big) :
    rCode (rK a) (rExp (rMax (rK a))) = stackCodes fun b => vqOf (kIn a b) := by
  refine codes_ext fun b s g l => ?_
  rw [rCode_at, max_v, rK_at, ← inv_eq (mOf_nonneg _ g) (v_lt a ha b g), ← at3_kIn]
  rfl

theorem v_scales (a : S9x2048x1024.Idx → EReal) (ha : ∀ i, ab (a i) ≤ big) :
    rSc (rExp (rMax (rK a))) = headScale fun b => vsOf (kIn a b) := by
  refine scales_ext fun b g => ?_
  rw [rSc_at, max_v, ← scale_eq (mOf_nonneg _ g) (v_lt a ha b g)]
  rfl

theorem k_codes (a : S9x2048x1024.Idx → EReal) (o : S9.Idx → BitVec 32) (ha : ∀ i, ab (a i) ≤ big) (ho : ∀ i, (o i).toInt ≤ 2147481600) :
    rCode (rRot (rK a) o) (rExp (rMax (rRot (rK a) o))) = stackCodes fun b => kqOf (kIn a b) ((o (ix1 b)).toInt : ℝ) := by
  refine codes_ext fun b s g l => ?_
  rw [rCode_at, max_k a o b g (ho _), rot_at a o b s g l (ho _), ← inv_eq (mOf_nonneg _ g) (k_lt a ha b _ g)]
  rfl

theorem k_scales (a : S9x2048x1024.Idx → EReal) (o : S9.Idx → BitVec 32) (ha : ∀ i, ab (a i) ≤ big) (ho : ∀ i, (o i).toInt ≤ 2147481600) :
    rSc (rExp (rMax (rRot (rK a) o))) = headScale fun b => ksOf (kIn a b) ((o (ix1 b)).toInt : ℝ) := by
  refine scales_ext fun b g => ?_
  rw [rSc_at, max_k a o b g (ho _), ← scale_eq (mOf_nonneg _ g) (k_lt a ha b _ g)]
  rfl

/-- THE VALUE CLAIM: all four results. -/
theorem algebraic : Cert.algebraic_KernelIdeal_ReferenceIdeal_pre_finite_and_in_range (hKernelIdeal := Cert.KernelIdeal.Gen.facts)
    (hReferenceIdeal := Cert.ReferenceIdeal.Gen.facts) (hPre_finite_and_in_range := Cert.Pre_finite_and_in_range.Gen.facts) := by
  intro m g m' g' hpre hargs
  have hp := fun c => Cert.Rope.pre_at _ _ _ (hpre c)
  refine ⟨fun c => stackCodes fun b => kqOf (kIn (Cert.Rope.kArg m c) b) (Cert.Rope.offAt m c b),
    fun c => headScale fun b => ksOf (kIn (Cert.Rope.kArg m c) b) (Cert.Rope.offAt m c b),
    fun c => stackCodes fun b => vqOf (kIn (Cert.Rope.vArg m c) b),
    fun c => headScale fun b => vsOf (kIn (Cert.Rope.vArg m c) b), ?_, ?_⟩
  · refine θ_run_mono (θ_run_and (Cert.Rope.run_values m g) (Cert.KernelIdeal.Hand.frame m g)) fun r h c => ?_
    obtain ⟨h0, h1, h2, h3⟩ := h.1 c
    exact ⟨h0, h1, h2, h3, h.2.1 c⟩
  · refine θ_run_mono (θ_run_and (Cert.RopeRef.run_values m' g') (Cert.RopeRef.frame m' g')) fun r h c => ?_
    obtain ⟨h0, h1, h2, h3⟩ := h.1 c
    obtain ⟨e0, e1, e2⟩ := hargs c
    have f0 : Cert.RopeRef.arg0 m' c = Cert.Rope.kArg m c := e0
    have f1 : Cert.RopeRef.arg1 m' c = Cert.Rope.vArg m c := e1
    have f2 : Cert.RopeRef.arg2 m' c = Cert.Rope.words m c := e2
    obtain ⟨pk, pv, po⟩ := hp c
    rw [f0, f2] at h0 h1
    rw [f1] at h2 h3
    exact ⟨h0.trans (k_codes _ _ pk po), h1.trans (k_scales _ _ pk po), h2.trans (v_codes _ pv), h3.trans (v_scales _ pv), h.2.1 c⟩

end Cert.RopeEq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_and_in_range
public import proofs.«01_k».proof.Proof.Gen.ReferenceIdeal.Run
public import proofs.«01_k».proof.Proof.KernelBody
public import proofs.«01_k».proof.Proof.KernelIdealBody
public import proofs.«01_k».proof.Proof.Preserves
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_and_in_range.Gen.facts,
  fun m g _ => Cert.Kernel.Hand.frame m g, fun m g _ => Cert.KernelIdeal.Hand.frame m g, fun m g _ => Cert.KernelIdeal.Hand.frame m g,
  fun m g _ => Cert.RopeRef.frame m g, fun m g _ => Cert.RopeRef.frame m g,
  Cert.Ledger.preserves, Cert.RopeEq.algebraic⟩

end Cert.Proof

end
